-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_boxes_near_origin [hPre_boxes_near_origin : Cert.Pre_boxes_near_origin.Facts] (m : (ℓ : Loc Cert.KernelIdeal.nD Cert.KernelIdeal.τ Cert.KernelIdeal.sig) → Buf (Elt Ideal) ℓ) : Prop :=
  ∀ c : Dev Cert.KernelIdeal.nD,
    (Cert.Pre_boxes_near_origin.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_boxes_near_origin [hPre_boxes_near_origin : Cert.Pre_boxes_near_origin.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_boxes_near_origin.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_boxes_near_origin [hKernelIdeal : Cert.KernelIdeal.Facts] [hPre_boxes_near_origin : Cert.Pre_boxes_near_origin.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_boxes_near_origin m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_boxes_near_origin [hReferenceIdeal : Cert.ReferenceIdeal.Facts] [hPre_boxes_near_origin : Cert.Pre_boxes_near_origin.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_boxes_near_origin m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "step" .f32 0x3E1D89D9#32 ((2 / 13 : ℝ) : EReal)

def algebraic_KernelIdeal_ReferenceIdeal_pre_boxes_near_origin [hKernelIdeal : Cert.KernelIdeal.Facts] [hReferenceIdeal : Cert.ReferenceIdeal.Facts] [hPre_boxes_near_origin : Cert.Pre_boxes_near_origin.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_boxes_near_origin m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_boxes_near_origin : Cert.Pre_boxes_near_origin.Facts),
    quiescent_Kernel (hKernel := hKernel)
    ∧ quiescent_KernelIdeal (hKernelIdeal := hKernelIdeal)
    ∧ quiescent_KernelIdeal_pre_boxes_near_origin (hKernelIdeal := hKernelIdeal) (hPre_boxes_near_origin := hPre_boxes_near_origin)
    ∧ quiescent_ReferenceIdeal (hReferenceIdeal := hReferenceIdeal)
    ∧ quiescent_ReferenceIdeal_pre_boxes_near_origin (hReferenceIdeal := hReferenceIdeal) (hPre_boxes_near_origin := hPre_boxes_near_origin)
    ∧ preserves_Kernel_KernelIdeal
    ∧ algebraic_KernelIdeal_ReferenceIdeal_pre_boxes_near_origin (hKernelIdeal := hKernelIdeal) (hReferenceIdeal := hReferenceIdeal) (hPre_boxes_near_origin := hPre_boxes_near_origin)
-- ==== Pre_boxes_near_origin.lean ====
abbrev S1x256x50x50 : Shape := ⟨4, ![1, 256, 50, 50]⟩
abbrev S1000x5 : Shape := ⟨2, ![1000, 5]⟩
abbrev S1x256x2x2 : Shape := ⟨4, ![1, 256, 2, 2]⟩
abbrev S_ : Shape := ⟨0, ![]⟩
abbrev S1000x4 : Shape := ⟨2, ![1000, 4]⟩

class Facts : Prop where
  slices_S1x256x50x50_S1x256x2x2_0_0_0_0 : S1x256x50x50.Slices ![0, 0, 0, 0] S1x256x2x2
  bcast_S_S1x256x2x2 : S_.BroadcastsInDim S1x256x2x2 (![] : Fin 0 → Fin S1x256x2x2.rank)
  reducesTo_S1x256x2x2_S_d0_1_2_3 : S1x256x2x2.ReducesTo [0, 1, 2, 3] S_
  h_S_ : 0 < S_.numel
  slices_S1000x5_S1000x4_0_1 : S1000x5.Slices ![0, 1] S1000x4
  bcast_S_S1000x4 : S_.BroadcastsInDim S1000x4 (![] : Fin 0 → Fin S1000x4.rank)
  reducesTo_S1000x4_S_d0_1 : S1000x4.ReducesTo [0, 1] S_

variable [Facts]

def fn {F : FTy → Type} [FloatOps F] (main_arg0 : FVec F S1x256x50x50 .f32) (main_arg1 : FVec F S1000x5 .f32) : IVec S_ 1 :=
  let main_v0 : FVec F S1x256x2x2 .f32 := (extractStridedSlice S1x256x2x2 ![0, 0, 0, 0] · slices_S1x256x50x50_S1x256x2x2_0_0_0_0) main_arg0
  let main_v1 : FVec F S1x256x2x2 .f32 := Host.absf main_v0
  let main_cst : FVec F S_ .f32 := constant S_ .f32 0x7F800000#32
  let main_v2 : FVec F S1x256x2x2 .f32 := broadcastInDim S1x256x2x2 ![] bcast_S_S1x256x2x2 main_cst
  let main_v3 : IVec S1x256x2x2 1 := cmpf .olt main_v1 main_v2
  let main_c : IVec S_ 1 := constantI S_ 1 1#1
  let main_v4 : IVec S_ 1 := (fun x v => Host.reduce IntOp.andi x v reducesTo_S1x256x2x2_S_d0_1_2_3 h_S_) main_v3 main_c
  let main_v5 : FVec F S1000x4 .f32 := (extractStridedSlice S1000x4 ![0, 1] · slices_S1000x5_S1000x4_0_1) main_arg1
  let main_v6 : FVec F S1000x4 .f32 := Host.absf main_v5
  let main_cst_0 : FVec F S_ .f32 := constant S_ .f32 0x41800000#32
  let main_v7 : FVec F S1000x4 .f32 := broadcastInDim S1000x4 ![] bcast_S_S1000x4 main_cst_0
  let main_v8 : IVec S1000x4 1 := cmpf .ole main_v6 main_v7
  let main_c_1 : IVec S_ 1 := constantI S_ 1 1#1
  let main_v9 : IVec S_ 1 := (fun x v => Host.reduce IntOp.andi x v reducesTo_S1000x4_S_d0_1 h_S_) main_v8 main_c_1
  let main_v10 : IVec S_ 1 := andi main_v4 main_v9
  main_v10
-- ==== Kernel.lean ====
abbrev S1x256x50x50 : Shape := ⟨4, ![1, 256, 50, 50]⟩
abbrev S1000x5 : Shape := ⟨2, ![1000, 5]⟩
abbrev S1x256x2x2 : Shape := ⟨4, ![1, 256, 2, 2]⟩
abbrev S256x2x2 : Shape := ⟨3, ![256, 2, 2]⟩
abbrev S256x4 : Shape := ⟨2, ![256, 4]⟩
abbrev S1000x256x49 : Shape := ⟨3, ![1000, 256, 49]⟩
abbrev S1000x256x7x7 : Shape := ⟨4, ![1000, 256, 7, 7]⟩
abbrev S20x256x49 : Shape := ⟨3, ![20, 256, 49]⟩
abbrev S256x8 : Shape := ⟨2, ![256, 8]⟩
abbrev S1x980 : Shape := ⟨2, ![1, 980]⟩
abbrev S1x1 : Shape := ⟨2, ![1, 1]⟩
abbrev S4x980 : Shape := ⟨2, ![4, 980]⟩
abbrev S8x980 : Shape := ⟨2, ![8, 980]⟩
abbrev S256x980 : Shape := ⟨2, ![256, 980]⟩
abbrev S256x49 : Shape := ⟨2, ![256, 49]⟩
abbrev S1x256x49 : Shape := ⟨3, ![1, 256, 49]⟩

abbrev nBuf : Space → Nat
  | .hbm => 7
  | .vmem => 3
  | .smem => 1
  | _ => 0

abbrev bufTy : (tb : Table) → Fin (tcTables nBuf tb) → BufTy
  | .hbm, ⟨0, _⟩ => ⟨S1x256x50x50, .f32⟩
  | .hbm, ⟨1, _⟩ => ⟨S1000x5, .f32⟩
  | .hbm, ⟨2, _⟩ => ⟨S1x256x2x2, .f32⟩
  | .hbm, ⟨3, _⟩ => ⟨S256x2x2, .f32⟩
  | .hbm, ⟨4, _⟩ => ⟨S256x4, .f32⟩
  | .hbm, ⟨5, _⟩ => ⟨S1000x256x49, .f32⟩
  | .hbm, ⟨6, _⟩ => ⟨S1000x256x7x7, .f32⟩
  | .local _ .vmem, ⟨0, _⟩ => ⟨S256x4, .f32⟩
  | .local _ .vmem, ⟨1, _⟩ => ⟨S20x256x49, .f32⟩
  | .local _ .vmem, ⟨2, _⟩ => ⟨S20x256x49, .f32⟩
  | .local _ .smem, ⟨0, _⟩ => ⟨S1000x5, .f32⟩
  | _, _ => ⟨S1x256x50x50, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_v0 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![50], ![false]⟩

def k0_off1 (i : grid0.Coords) (c0_i32_38 : BitVec 32) : Fin 2 → Nat :=
  let arg0 : BitVec 32 := BitVec.ofNat 32 (i 0).val
  let c20_i32 : BitVec 32 := 20#32
  let v132 : BitVec 32 := Scalar.muli arg0 c20_i32
  let v134 : BitVec 32 := Scalar.addi v132 c0_i32_38
  let v135 : Index := Scalar.indexCast v134
  let c1 : Index := 1#32
  ![v135.toNat, 1]
def k0_off2 (i : grid0.Coords) (c0_i32_40 : BitVec 32) : Fin 2 → Nat :=
  let arg0 : BitVec 32 := BitVec.ofNat 32 (i 0).val
  let c20_i32 : BitVec 32 := 20#32
  let v132 : BitVec 32 := Scalar.muli arg0 c20_i32
  let v138 : BitVec 32 := Scalar.addi v132 c0_i32_40
  let v139 : Index := Scalar.indexCast v138
  let c2 : Index := 2#32
  ![v139.toNat, 2]
def k0_off3 (i : grid0.Coords) (c0_i32_42 : BitVec 32) : Fin 2 → Nat :=
  let arg0 : BitVec 32 := BitVec.ofNat 32 (i 0).val
  let c20_i32 : BitVec 32 := 20#32
  let v132 : BitVec 32 := Scalar.muli arg0 c20_i32
  let v142 : BitVec 32 := Scalar.addi v132 c0_i32_42
  let v143 : Index := Scalar.indexCast v142
  let c3 : Index := 3#32
  ![v143.toNat, 3]
def k0_off4 (i : grid0.Coords) (c0_i32_44 : BitVec 32) : Fin 2 → Nat :=
  let arg0 : BitVec 32 := BitVec.ofNat 32 (i 0).val
  let c20_i32 : BitVec 32 := 20#32
  let v132 : BitVec 32 := Scalar.muli arg0 c20_i32
  let v146 : BitVec 32 := Scalar.addi v132 c0_i32_44
  let v147 : Index := Scalar.indexCast v146
  let c4 : Index := 4#32
  ![v147.toNat, 4]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1000x5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20x256x49 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "step" => some ((2 / 13 : ℝ) : EReal)
  | _ => none
-- ==== ReferenceIdeal.lean ====
abbrev S1x256x50x50 : Shape := ⟨4, ![1, 256, 50, 50]⟩
abbrev S1000x5 : Shape := ⟨2, ![1000, 5]⟩
abbrev S1000x1 : Shape := ⟨2, ![1000, 1]⟩
abbrev S_ : Shape := ⟨0, ![]⟩
abbrev S1000x6 : Shape := ⟨2, ![1000, 6]⟩
abbrev S1000x2x3 : Shape := ⟨3, ![1000, 2, 3]⟩
abbrev S13 : Shape := ⟨1, ![13]⟩
abbrev S1 : Shape := ⟨1, ![1]⟩
abbrev S14 : Shape := ⟨1, ![14]⟩
abbrev S14x14 : Shape := ⟨2, ![14, 14]⟩
abbrev S14x14x1 : Shape := ⟨3, ![14, 14, 1]⟩
abbrev S14x14x3 : Shape := ⟨3, ![14, 14, 3]⟩
abbrev S14x14x1000x2 : Shape := ⟨4, ![14, 14, 1000, 2]⟩
abbrev S1000x14x14x2 : Shape := ⟨4, ![1000, 14, 14, 2]⟩
abbrev S1000x14x14x1 : Shape := ⟨4, ![1000, 14, 14, 1]⟩
abbrev S1000x14x14 : Shape := ⟨3, ![1000, 14, 14]⟩
abbrev S1000 : Shape := ⟨1, ![1000]⟩
abbrev S1000x1x1 : Shape := ⟨3, ![1000, 1, 1]⟩
abbrev S1000x14x14x3 : Shape := ⟨4, ![1000, 14, 14, 3]⟩
abbrev S1000x14x14x256 : Shape := ⟨4, ![1000, 14, 14, 256]⟩
abbrev S1000x256x14x14 : Shape := ⟨4, ![1000, 256, 14, 14]⟩
abbrev S1000x256x7x7 : Shape := ⟨4, ![1000, 256, 7, 7]⟩

abbrev nBuf : Space → Nat
  | .hbm => 428
  | .vmem => 0
  | .smem => 0
  | _ => 0

abbrev hbmTy0_0 (i : Nat) : BufTy := match i % 128 with
  | 0 => ⟨S1x256x50x50, .f32⟩
  | 1 => ⟨S1000x5, .f32⟩
  | 2 => ⟨S1000x1, .f32⟩
  | 3 => ⟨S_, .f32⟩
  | 4 => ⟨S1000x1, .f32⟩
  | 5 => ⟨S1000x1, .f32⟩
  | 6 => ⟨S1000x1, .f32⟩
  | 7 => ⟨S_, .f32⟩
  | 8 => ⟨S1000x1, .f32⟩
  | 9 => ⟨S1000x1, .f32⟩
  | 10 => ⟨S1000x1, .f32⟩
  | 11 => ⟨S_, .f32⟩
  | 12 => ⟨S1000x1, .f32⟩
  | 13 => ⟨S1000x1, .f32⟩
  | 14 => ⟨S1000x1, .f32⟩
  | 15 => ⟨S_, .f32⟩
  | 16 => ⟨S1000x1, .f32⟩
  | 17 => ⟨S1000x1, .f32⟩
  | 18 => ⟨S_, .f32⟩
  | 19 => ⟨S1000x1, .f32⟩
  | 20 => ⟨S1000x1, .f32⟩
  | 21 => ⟨S_, .f32⟩
  | 22 => ⟨S1000x1, .f32⟩
  | 23 => ⟨S1000x1, .f32⟩
  | 24 => ⟨S1000x1, .f32⟩
  | 25 => ⟨S_, .f32⟩
  | 26 => ⟨S1000x1, .f32⟩
  | 27 => ⟨S1000x1, .f32⟩
  | 28 => ⟨S_, .f32⟩
  | 29 => ⟨S1000x1, .f32⟩
  | 30 => ⟨S1000x1, .f32⟩
  | 31 => ⟨S_, .f32⟩
  | 32 => ⟨S1000x1, .f32⟩
  | 33 => ⟨S1000x1, .f32⟩
  | 34 => ⟨S1000x1, .f32⟩
  | 35 => ⟨S_, .f32⟩
  | 36 => ⟨S1000x1, .f32⟩
  | 37 => ⟨S1000x1, .f32⟩
  | 38 => ⟨S1000x1, .f32⟩
  | 39 => ⟨S_, .f32⟩
  | 40 => ⟨S1000x1, .f32⟩
  | 41 => ⟨S1000x1, .f32⟩
  | 42 => ⟨S_, .f32⟩
  | 43 => ⟨S1000x1, .f32⟩
  | 44 => ⟨S1000x1, .f32⟩
  | 45 => ⟨S_, .f32⟩
  | 46 => ⟨S1000x1, .f32⟩
  | 47 => ⟨S1000x1, .f32⟩
  | 48 => ⟨S1000x6, .f32⟩
  | 49 => ⟨S1000x2x3, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S13, .f32⟩
  | 58 => ⟨S_, .f32⟩
  | 59 => ⟨S13, .f32⟩
  | 60 => ⟨S13, .f32⟩
  | 61 => ⟨S1, .f32⟩
  | 62 => ⟨S_, .f32⟩
  | 63 => ⟨S13, .f32⟩
  | 64 => ⟨S13, .f32⟩
  | 65 => ⟨S13, .f32⟩
  | 66 => ⟨S13, .f32⟩
  | 67 => ⟨S1, .f32⟩
  | 68 => ⟨S13, .f32⟩
  | 69 => ⟨S13, .f32⟩
  | 70 => ⟨S13, .f32⟩
  | 71 => ⟨S1, .f32⟩
  | 72 => ⟨S14, .f32⟩
  | 73 => ⟨S14x14, .f32⟩
  | 74 => ⟨S14x14, .f32⟩
  | 75 => ⟨S_, .f32⟩
  | 76 => ⟨S14x14, .f32⟩
  | 77 => ⟨S14x14x1, .f32⟩
  | 78 => ⟨S14x14x1, .f32⟩
  | 79 => ⟨S14x14x1, .f32⟩
  | 80 => ⟨S14x14x3, .f32⟩
  | 81 => ⟨S14x14x1000x2, .f32⟩
  | 82 => ⟨S1000x14x14x2, .f32⟩
  | 83 => ⟨S1000x14x14x1, .f32⟩
  | 84 => ⟨S1000x14x14, .f32⟩
  | 85 => ⟨S1000x14x14x1, .f32⟩
  | 86 => ⟨S1000x14x14, .f32⟩
  | 87 => ⟨S1000x14x14x1, .f32⟩
  | 88 => ⟨S1000x14x14x1, .f32⟩
  | 89 => ⟨S1000x14x14x2, .f32⟩
  | 90 => ⟨S1000x1, .f32⟩
  | 91 => ⟨S1000, .f32⟩
  | 92 => ⟨S1000, .i32⟩
  | 93 => ⟨S_, .i32⟩
  | 94 => ⟨S_, .i32⟩
  | 95 => ⟨S_, .i32⟩
  | 96 => ⟨S1000, .i32⟩
  | 97 => ⟨S1000, .i32⟩
  | 98 => ⟨S_, .i32⟩
  | 99 => ⟨S1000, .i32⟩
  | 100 => ⟨S1000, .i32⟩
  | 101 => ⟨S1000x14x14x1, .f32⟩
  | 102 => ⟨S1000x14x14, .f32⟩
  | 103 => ⟨S_, .f32⟩
  | 104 => ⟨S1000x14x14, .f32⟩
  | 105 => ⟨S1000x14x14, .f32⟩
  | 106 => ⟨S_, .f32⟩
  | 107 => ⟨S1000x14x14, .f32⟩
  | 108 => ⟨S1000x14x14, .f32⟩
  | 109 => ⟨S_, .f32⟩
  | 110 => ⟨S1000x14x14, .f32⟩
  | 111 => ⟨S1000x14x14, .f32⟩
  | 112 => ⟨S1000x14x14x1, .f32⟩
  | 113 => ⟨S1000x14x14, .f32⟩
  | 114 => ⟨S_, .f32⟩
  | 115 => ⟨S1000x14x14, .f32⟩
  | 116 => ⟨S1000x14x14, .f32⟩
  | 117 => ⟨S_, .f32⟩
  | 118 => ⟨S1000x14x14, .f32⟩
  | 119 => ⟨S1000x14x14, .f32⟩
  | 120 => ⟨S_, .f32⟩
  | 121 => ⟨S1000x14x14, .f32⟩
  | 122 => ⟨S1000x14x14, .f32⟩
  | 123 => ⟨S1000x14x14, .f32⟩
  | 124 => ⟨S1000x14x14, .f32⟩
  | 125 => ⟨S1000x14x14, .f32⟩
  | 126 => ⟨S_, .f32⟩
  | 127 => ⟨S1000x14x14, .f32⟩
  | _ => ⟨S1x256x50x50, .f32⟩

abbrev hbmTy0_1 (i : Nat) : BufTy := match i % 128 with
  | 0 => ⟨S1000x14x14, .f32⟩
  | 1 => ⟨S1000x14x14, .f32⟩
  | 2 => ⟨S_, .f32⟩
  | 3 => ⟨S1000x14x14, .f32⟩
  | 4 => ⟨S1000x14x14, .f32⟩
  | 5 => ⟨S_, .f32⟩
  | 6 => ⟨S1000x14x14, .f32⟩
  | 7 => ⟨S1000x14x14, .i1⟩
  | 8 => ⟨S_, .f32⟩
  | 9 => ⟨S1000x14x14, .f32⟩
  | 10 => ⟨S1000x14x14, .i1⟩
  | 11 => ⟨S1000x14x14, .i1⟩
  | 12 => ⟨S_, .f32⟩
  | 13 => ⟨S1000x14x14, .f32⟩
  | 14 => ⟨S1000x14x14, .i1⟩
  | 15 => ⟨S1000x14x14, .i1⟩
  | 16 => ⟨S_, .f32⟩
  | 17 => ⟨S1000x14x14, .f32⟩
  | 18 => ⟨S1000x14x14, .i1⟩
  | 19 => ⟨S1000x14x14, .i1⟩
  | 20 => ⟨S_, .i32⟩
  | 21 => ⟨S_, .i32⟩
  | 22 => ⟨S_, .f32⟩
  | 23 => ⟨S1000x14x14, .f32⟩
  | 24 => ⟨S1000x14x14, .f32⟩
  | 25 => ⟨S_, .f32⟩
  | 26 => ⟨S1000x14x14, .f32⟩
  | 27 => ⟨S1000x14x14, .f32⟩
  | 28 => ⟨S1000x14x14, .i32⟩
  | 29 => ⟨S_, .i32⟩
  | 30 => ⟨S_, .i32⟩
  | 31 => ⟨S_, .f32⟩
  | 32 => ⟨S1000x14x14, .f32⟩
  | 33 => ⟨S1000x14x14, .f32⟩
  | 34 => ⟨S_, .f32⟩
  | 35 => ⟨S1000x14x14, .f32⟩
  | 36 => ⟨S1000x14x14, .f32⟩
  | 37 => ⟨S1000x14x14, .i32⟩
  | 38 => ⟨S1000x1x1, .i32⟩
  | 39 => ⟨S_, .i32⟩
  | 40 => ⟨S1000x1x1, .i32⟩
  | 41 => ⟨S1000x1x1, .i1⟩
  | 42 => ⟨S_, .i32⟩
  | 43 => ⟨S1000x1x1, .i32⟩
  | 44 => ⟨S1000x1x1, .i32⟩
  | 45 => ⟨S1000x1x1, .i32⟩
  | 46 => ⟨S_, .i32⟩
  | 47 => ⟨S1000x14x14, .i32⟩
  | 48 => ⟨S1000x14x14, .i1⟩
  | 49 => ⟨S_, .i32⟩
  | 50 => ⟨S1000x14x14, .i32⟩
  | 51 => ⟨S1000x14x14, .i32⟩
  | 52 => ⟨S1000x14x14, .i32⟩
  | 53 => ⟨S_, .i32⟩
  | 54 => ⟨S1000x14x14, .i32⟩
  | 55 => ⟨S1000x14x14, .i1⟩
  | 56 => ⟨S_, .i32⟩
  | 57 => ⟨S1000x14x14, .i32⟩
  | 58 => ⟨S1000x14x14, .i32⟩
  | 59 => ⟨S1000x14x14, .i32⟩
  | 60 => ⟨S1000x14x14, .i32⟩
  | 61 => ⟨S1000x14x14x1, .i32⟩
  | 62 => ⟨S1000x14x14x1, .i32⟩
  | 63 => ⟨S1000x14x14x1, .i32⟩
  | 64 => ⟨S1000x14x14x3, .i32⟩
  | 65 => ⟨S1000x14x14x256, .f32⟩
  | 66 => ⟨S1000x14x14x1, .i1⟩
  | 67 => ⟨S1000x14x14x1, .f32⟩
  | 68 => ⟨S1000x14x14x256, .f32⟩
  | 69 => ⟨S1000x14x14x256, .f32⟩
  | 70 => ⟨S1000x14x14, .f32⟩
  | 71 => ⟨S1000x14x14x1, .f32⟩
  | 72 => ⟨S1000x14x14x256, .f32⟩
  | 73 => ⟨S1000x14x14x256, .f32⟩
  | 74 => ⟨S_, .f32⟩
  | 75 => ⟨S1000x14x14, .f32⟩
  | 76 => ⟨S1000x14x14, .f32⟩
  | 77 => ⟨S_, .f32⟩
  | 78 => ⟨S1000x14x14, .f32⟩
  | 79 => ⟨S1000x14x14, .i1⟩
  | 80 => ⟨S_, .f32⟩
  | 81 => ⟨S1000x14x14, .f32⟩
  | 82 => ⟨S1000x14x14, .i1⟩
  | 83 => ⟨S1000x14x14, .i1⟩
  | 84 => ⟨S_, .f32⟩
  | 85 => ⟨S1000x14x14, .f32⟩
  | 86 => ⟨S1000x14x14, .i1⟩
  | 87 => ⟨S1000x14x14, .i1⟩
  | 88 => ⟨S_, .f32⟩
  | 89 => ⟨S1000x14x14, .f32⟩
  | 90 => ⟨S1000x14x14, .i1⟩
  | 91 => ⟨S1000x14x14, .i1⟩
  | 92 => ⟨S_, .i32⟩
  | 93 => ⟨S_, .i32⟩
  | 94 => ⟨S_, .f32⟩
  | 95 => ⟨S1000x14x14, .f32⟩
  | 96 => ⟨S1000x14x14, .f32⟩
  | 97 => ⟨S_, .f32⟩
  | 98 => ⟨S1000x14x14, .f32⟩
  | 99 => ⟨S1000x14x14, .f32⟩
  | 100 => ⟨S1000x14x14, .i32⟩
  | 101 => ⟨S_, .i32⟩
  | 102 => ⟨S_, .i32⟩
  | 103 => ⟨S_, .f32⟩
  | 104 => ⟨S1000x14x14, .f32⟩
  | 105 => ⟨S1000x14x14, .f32⟩
  | 106 => ⟨S_, .f32⟩
  | 107 => ⟨S1000x14x14, .f32⟩
  | 108 => ⟨S1000x14x14, .f32⟩
  | 109 => ⟨S1000x14x14, .i32⟩
  | 110 => ⟨S1000x1x1, .i32⟩
  | 111 => ⟨S_, .i32⟩
  | 112 => ⟨S1000x1x1, .i32⟩
  | 113 => ⟨S1000x1x1, .i1⟩
  | 114 => ⟨S_, .i32⟩
  | 115 => ⟨S1000x1x1, .i32⟩
  | 116 => ⟨S1000x1x1, .i32⟩
  | 117 => ⟨S1000x1x1, .i32⟩
  | 118 => ⟨S_, .i32⟩
  | 119 => ⟨S1000x14x14, .i32⟩
  | 120 => ⟨S1000x14x14, .i1⟩
  | 121 => ⟨S_, .i32⟩
  | 122 => ⟨S1000x14x14, .i32⟩
  | 123 => ⟨S1000x14x14, .i32⟩
  | 124 => ⟨S1000x14x14, .i32⟩
  | 125 => ⟨S_, .i32⟩
  | 126 => ⟨S1000x14x14, .i32⟩
  | 127 => ⟨S1000x14x14, .i1⟩
  | _ => ⟨S1x256x50x50, .f32⟩

abbrev hbmTy0_2 (i : Nat) : BufTy := match i % 128 with
  | 0 => ⟨S_, .i32⟩
  | 1 => ⟨S1000x14x14, .i32⟩
  | 2 => ⟨S1000x14x14, .i32⟩
  | 3 => ⟨S1000x14x14, .i32⟩
  | 4 => ⟨S1000x14x14, .i32⟩
  | 5 => ⟨S1000x14x14x1, .i32⟩
  | 6 => ⟨S1000x14x14x1, .i32⟩
  | 7 => ⟨S1000x14x14x1, .i32⟩
  | 8 => ⟨S1000x14x14x3, .i32⟩
  | 9 => ⟨S1000x14x14x256, .f32⟩
  | 10 => ⟨S1000x14x14x1, .i1⟩
  | 11 => ⟨S1000x14x14x1, .f32⟩
  | 12 => ⟨S1000x14x14x256, .f32⟩
  | 13 => ⟨S1000x14x14x256, .f32⟩
  | 14 => ⟨S1000x14x14, .f32⟩
  | 15 => ⟨S1000x14x14x1, .f32⟩
  | 16 => ⟨S1000x14x14x256, .f32⟩
  | 17 => ⟨S1000x14x14x256, .f32⟩
  | 18 => ⟨S1000x14x14x256, .f32⟩
  | 19 => ⟨S_, .f32⟩
  | 20 => ⟨S1000x14x14, .f32⟩
  | 21 => ⟨S1000x14x14, .f32⟩
  | 22 => ⟨S_, .f32⟩
  | 23 => ⟨S1000x14x14, .f32⟩
  | 24 => ⟨S1000x14x14, .i1⟩
  | 25 => ⟨S_, .f32⟩
  | 26 => ⟨S1000x14x14, .f32⟩
  | 27 => ⟨S1000x14x14, .i1⟩
  | 28 => ⟨S1000x14x14, .i1⟩
  | 29 => ⟨S_, .f32⟩
  | 30 => ⟨S1000x14x14, .f32⟩
  | 31 => ⟨S1000x14x14, .i1⟩
  | 32 => ⟨S1000x14x14, .i1⟩
  | 33 => ⟨S_, .f32⟩
  | 34 => ⟨S1000x14x14, .f32⟩
  | 35 => ⟨S1000x14x14, .i1⟩
  | 36 => ⟨S1000x14x14, .i1⟩
  | 37 => ⟨S_, .i32⟩
  | 38 => ⟨S_, .i32⟩
  | 39 => ⟨S_, .f32⟩
  | 40 => ⟨S1000x14x14, .f32⟩
  | 41 => ⟨S1000x14x14, .f32⟩
  | 42 => ⟨S_, .f32⟩
  | 43 => ⟨S1000x14x14, .f32⟩
  | 44 => ⟨S1000x14x14, .f32⟩
  | 45 => ⟨S1000x14x14, .i32⟩
  | 46 => ⟨S_, .i32⟩
  | 47 => ⟨S_, .i32⟩
  | 48 => ⟨S_, .f32⟩
  | 49 => ⟨S1000x14x14, .f32⟩
  | 50 => ⟨S1000x14x14, .f32⟩
  | 51 => ⟨S_, .f32⟩
  | 52 => ⟨S1000x14x14, .f32⟩
  | 53 => ⟨S1000x14x14, .f32⟩
  | 54 => ⟨S1000x14x14, .i32⟩
  | 55 => ⟨S1000x1x1, .i32⟩
  | 56 => ⟨S_, .i32⟩
  | 57 => ⟨S1000x1x1, .i32⟩
  | 58 => ⟨S1000x1x1, .i1⟩
  | 59 => ⟨S_, .i32⟩
  | 60 => ⟨S1000x1x1, .i32⟩
  | 61 => ⟨S1000x1x1, .i32⟩
  | 62 => ⟨S1000x1x1, .i32⟩
  | 63 => ⟨S_, .i32⟩
  | 64 => ⟨S1000x14x14, .i32⟩
  | 65 => ⟨S1000x14x14, .i1⟩
  | 66 => ⟨S_, .i32⟩
  | 67 => ⟨S1000x14x14, .i32⟩
  | 68 => ⟨S1000x14x14, .i32⟩
  | 69 => ⟨S1000x14x14, .i32⟩
  | 70 => ⟨S_, .i32⟩
  | 71 => ⟨S1000x14x14, .i32⟩
  | 72 => ⟨S1000x14x14, .i1⟩
  | 73 => ⟨S_, .i32⟩
  | 74 => ⟨S1000x14x14, .i32⟩
  | 75 => ⟨S1000x14x14, .i32⟩
  | 76 => ⟨S1000x14x14, .i32⟩
  | 77 => ⟨S1000x14x14, .i32⟩
  | 78 => ⟨S1000x14x14x1, .i32⟩
  | 79 => ⟨S1000x14x14x1, .i32⟩
  | 80 => ⟨S1000x14x14x1, .i32⟩
  | 81 => ⟨S1000x14x14x3, .i32⟩
  | 82 => ⟨S1000x14x14x256, .f32⟩
  | 83 => ⟨S1000x14x14x1, .i1⟩
  | 84 => ⟨S1000x14x14x1, .f32⟩
  | 85 => ⟨S1000x14x14x256, .f32⟩
  | 86 => ⟨S1000x14x14x256, .f32⟩
  | 87 => ⟨S1000x14x14, .f32⟩
  | 88 => ⟨S1000x14x14x1, .f32⟩
  | 89 => ⟨S1000x14x14x256, .f32⟩
  | 90 => ⟨S1000x14x14x256, .f32⟩
  | 91 => ⟨S1000x14x14x256, .f32⟩
  | 92 => ⟨S_, .f32⟩
  | 93 => ⟨S1000x14x14, .f32⟩
  | 94 => ⟨S1000x14x14, .f32⟩
  | 95 => ⟨S_, .f32⟩
  | 96 => ⟨S1000x14x14, .f32⟩
  | 97 => ⟨S1000x14x14, .f32⟩
  | 98 => ⟨S_, .f32⟩
  | 99 => ⟨S1000x14x14, .f32⟩
  | 100 => ⟨S1000x14x14, .i1⟩
  | 101 => ⟨S_, .f32⟩
  | 102 => ⟨S1000x14x14, .f32⟩
  | 103 => ⟨S1000x14x14, .i1⟩
  | 104 => ⟨S1000x14x14, .i1⟩
  | 105 => ⟨S_, .f32⟩
  | 106 => ⟨S1000x14x14, .f32⟩
  | 107 => ⟨S1000x14x14, .i1⟩
  | 108 => ⟨S1000x14x14, .i1⟩
  | 109 => ⟨S_, .f32⟩
  | 110 => ⟨S1000x14x14, .f32⟩
  | 111 => ⟨S1000x14x14, .i1⟩
  | 112 => ⟨S1000x14x14, .i1⟩
  | 113 => ⟨S_, .i32⟩
  | 114 => ⟨S_, .i32⟩
  | 115 => ⟨S_, .f32⟩
  | 116 => ⟨S1000x14x14, .f32⟩
  | 117 => ⟨S1000x14x14, .f32⟩
  | 118 => ⟨S_, .f32⟩
  | 119 => ⟨S1000x14x14, .f32⟩
  | 120 => ⟨S1000x14x14, .f32⟩
  | 121 => ⟨S1000x14x14, .i32⟩
  | 122 => ⟨S_, .i32⟩
  | 123 => ⟨S_, .i32⟩
  | 124 => ⟨S_, .f32⟩
  | 125 => ⟨S1000x14x14, .f32⟩
  | 126 => ⟨S1000x14x14, .f32⟩
  | 127 => ⟨S_, .f32⟩
  | _ => ⟨S1x256x50x50, .f32⟩

abbrev hbmTy0_3 (i : Nat) : BufTy := match i % 128 with
  | 0 => ⟨S1000x14x14, .f32⟩
  | 1 => ⟨S1000x14x14, .f32⟩
  | 2 => ⟨S1000x14x14, .i32⟩
  | 3 => ⟨S1000x1x1, .i32⟩
  | 4 => ⟨S_, .i32⟩
  | 5 => ⟨S1000x1x1, .i32⟩
  | 6 => ⟨S1000x1x1, .i1⟩
  | 7 => ⟨S_, .i32⟩
  | 8 => ⟨S1000x1x1, .i32⟩
  | 9 => ⟨S1000x1x1, .i32⟩
  | 10 => ⟨S1000x1x1, .i32⟩
  | 11 => ⟨S_, .i32⟩
  | 12 => ⟨S1000x14x14, .i32⟩
  | 13 => ⟨S1000x14x14, .i1⟩
  | 14 => ⟨S_, .i32⟩
  | 15 => ⟨S1000x14x14, .i32⟩
  | 16 => ⟨S1000x14x14, .i32⟩
  | 17 => ⟨S1000x14x14, .i32⟩
  | 18 => ⟨S_, .i32⟩
  | 19 => ⟨S1000x14x14, .i32⟩
  | 20 => ⟨S1000x14x14, .i1⟩
  | 21 => ⟨S_, .i32⟩
  | 22 => ⟨S1000x14x14, .i32⟩
  | 23 => ⟨S1000x14x14, .i32⟩
  | 24 => ⟨S1000x14x14, .i32⟩
  | 25 => ⟨S1000x14x14, .i32⟩
  | 26 => ⟨S1000x14x14x1, .i32⟩
  | 27 => ⟨S1000x14x14x1, .i32⟩
  | 28 => ⟨S1000x14x14x1, .i32⟩
  | 29 => ⟨S1000x14x14x3, .i32⟩
  | 30 => ⟨S1000x14x14x256, .f32⟩
  | 31 => ⟨S1000x14x14x1, .i1⟩
  | 32 => ⟨S1000x14x14x1, .f32⟩
  | 33 => ⟨S1000x14x14x256, .f32⟩
  | 34 => ⟨S1000x14x14x256, .f32⟩
  | 35 => ⟨S1000x14x14, .f32⟩
  | 36 => ⟨S1000x14x14x1, .f32⟩
  | 37 => ⟨S1000x14x14x256, .f32⟩
  | 38 => ⟨S1000x14x14x256, .f32⟩
  | 39 => ⟨S1000x14x14x256, .f32⟩
  | 40 => ⟨S1000x256x14x14, .f32⟩
  | 41 => ⟨S_, .f32⟩
  | 42 => ⟨S_, .f32⟩
  | 43 => ⟨S1000x256x7x7, .f32⟩
  | _ => ⟨S1x256x50x50, .f32⟩

abbrev hbmTy (i : Nat) : BufTy := match i / 128 with
  | 0 => hbmTy0_0 i
  | 1 => hbmTy0_1 i
  | 2 => hbmTy0_2 i
  | 3 => hbmTy0_3 i
  | _ => ⟨S1x256x50x50, .f32⟩

abbrev bufTy : (tb : Table) → Fin (tcTables nBuf tb) → BufTy
  | .hbm, ⟨i, _⟩ => hbmTy i
  | _, _ => ⟨S1x256x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_9 : Ref sig .tc := ⟨.hbm, 39, rfl⟩
abbrev main_v27 : Ref sig .tc := ⟨.hbm, 40, rfl⟩
abbrev main_v28 : Ref sig .tc := ⟨.hbm, 41, rfl⟩
abbrev main_cst_10 : Ref sig .tc := ⟨.hbm, 42, rfl⟩
abbrev main_v29 : Ref sig .tc := ⟨.hbm, 43, rfl⟩
abbrev main_v30 : Ref sig .tc := ⟨.hbm, 44, rfl⟩
abbrev main_cst_11 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_12 : Ref sig .tc := ⟨.hbm, 50, rfl⟩
abbrev main_cst_13 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_cst : Ref sig .tc := ⟨.hbm, 55, rfl⟩
abbrev main_call0_v3 : Ref sig .tc := ⟨.hbm, 56, rfl⟩
abbrev main_call0_v4 : Ref sig .tc := ⟨.hbm, 57, rfl⟩
abbrev main_call0_cst_0 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_v12 : Ref sig .tc := ⟨.hbm, 67, rfl⟩
abbrev main_call0_v13 : Ref sig .tc := ⟨.hbm, 68, rfl⟩
abbrev main_call0_v14 : Ref sig .tc := ⟨.hbm, 69, rfl⟩
abbrev main_call0_v15 : Ref sig .tc := ⟨.hbm, 70, rfl⟩
abbrev main_call0_v16 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_14 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_c : Ref sig .tc := ⟨.hbm, 93, rfl⟩
abbrev main_c_15 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_cst_16 : Ref sig .tc := ⟨.hbm, 103, rfl⟩
abbrev main_v58 : Ref sig .tc := ⟨.hbm, 104, rfl⟩
abbrev main_v59 : Ref sig .tc := ⟨.hbm, 105, rfl⟩
abbrev main_cst_17 : Ref sig .tc := ⟨.hbm, 106, rfl⟩
abbrev main_v60 : Ref sig .tc := ⟨.hbm, 107, rfl⟩
abbrev main_v61 : Ref sig .tc := ⟨.hbm, 108, rfl⟩
abbrev main_cst_18 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_19 : Ref sig .tc := ⟨.hbm, 114, rfl⟩
abbrev main_v66 : Ref sig .tc := ⟨.hbm, 115, rfl⟩
abbrev main_v67 : Ref sig .tc := ⟨.hbm, 116, rfl⟩
abbrev main_cst_20 : Ref sig .tc := ⟨.hbm, 117, rfl⟩
abbrev main_v68 : Ref sig .tc := ⟨.hbm, 118, rfl⟩
abbrev main_v69 : Ref sig .tc := ⟨.hbm, 119, rfl⟩
abbrev main_cst_21 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_cst_22 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_cst_23 : Ref sig .tc := ⟨.hbm, 130, rfl⟩
abbrev main_v78 : Ref sig .tc := ⟨.hbm, 131, rfl⟩
abbrev main_v79 : Ref sig .tc := ⟨.hbm, 132, rfl⟩
abbrev main_cst_24 : Ref sig .tc := ⟨.hbm, 133, rfl⟩
abbrev main_v80 : Ref sig .tc := ⟨.hbm, 134, rfl⟩
abbrev main_v81 : Ref sig .tc := ⟨.hbm, 135, rfl⟩
abbrev main_cst_25 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_26 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_cst_27 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_c_28 : Ref sig .tc := ⟨.hbm, 148, rfl⟩
abbrev main_c_29 : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_v91 : Ref sig .tc := ⟨.hbm, 155, rfl⟩
abbrev main_v92 : Ref sig .tc := ⟨.hbm, 156, rfl⟩
abbrev main_c_30 : Ref sig .tc := ⟨.hbm, 157, rfl⟩
abbrev main_c_31 : Ref sig .tc := ⟨.hbm, 158, rfl⟩
abbrev main_call3_v0 : Ref sig .tc := ⟨.hbm, 159, rfl⟩
abbrev main_call3_v1 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_v93 : Ref sig .tc := ⟨.hbm, 164, rfl⟩
abbrev main_v94 : Ref sig .tc := ⟨.hbm, 165, rfl⟩
abbrev main_v95 : Ref sig .tc := ⟨.hbm, 166, rfl⟩
abbrev main_c_32 : Ref sig .tc := ⟨.hbm, 167, rfl⟩
abbrev main_v96 : Ref sig .tc := ⟨.hbm, 168, rfl⟩
abbrev main_v97 : Ref sig .tc := ⟨.hbm, 169, rfl⟩
abbrev main_c_33 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_c_34 : Ref sig .tc := ⟨.hbm, 174, rfl⟩
abbrev main_v101 : Ref sig .tc := ⟨.hbm, 175, rfl⟩
abbrev main_v102 : Ref sig .tc := ⟨.hbm, 176, rfl⟩
abbrev main_c_35 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_c_36 : Ref sig .tc := ⟨.hbm, 181, rfl⟩
abbrev main_v106 : Ref sig .tc := ⟨.hbm, 182, rfl⟩
abbrev main_v107 : Ref sig .tc := ⟨.hbm, 183, rfl⟩
abbrev main_c_37 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_cst_38 : Ref sig .tc := ⟨.hbm, 202, rfl⟩
abbrev main_v125 : Ref sig .tc := ⟨.hbm, 203, rfl⟩
abbrev main_v126 : Ref sig .tc := ⟨.hbm, 204, rfl⟩
abbrev main_cst_39 : Ref sig .tc := ⟨.hbm, 205, rfl⟩
abbrev main_v127 : Ref sig .tc := ⟨.hbm, 206, rfl⟩
abbrev main_v128 : Ref sig .tc := ⟨.hbm, 207, rfl⟩
abbrev main_cst_40 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_cst_41 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_cst_42 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_c_43 : Ref sig .tc := ⟨.hbm, 220, rfl⟩
abbrev main_c_44 : Ref sig .tc := ⟨.hbm, 221, rfl⟩
abbrev main_call4_v0 : Ref sig .tc := ⟨.hbm, 222, rfl⟩
abbrev main_call4_v1 : Ref sig .tc := ⟨.hbm, 223, rfl⟩
abbrev main_call4_v2 : Ref sig .tc := ⟨.hbm, 224, rfl⟩
abbrev main_call4_v3 : Ref sig .tc := ⟨.hbm, 225, rfl⟩
abbrev main_call4_v4 : Ref sig .tc := ⟨.hbm, 226, rfl⟩
abbrev main_v138 : Ref sig .tc := ⟨.hbm, 227, rfl⟩
abbrev main_v139 : Ref sig .tc := ⟨.hbm, 228, rfl⟩
abbrev main_c_45 : Ref sig .tc := ⟨.hbm, 229, rfl⟩
abbrev main_c_46 : Ref sig .tc := ⟨.hbm, 230, rfl⟩
abbrev main_call5_v0 : Ref sig .tc := ⟨.hbm, 231, rfl⟩
abbrev main_call5_v1 : Ref sig .tc := ⟨.hbm, 232, rfl⟩
abbrev main_call5_v2 : Ref sig .tc := ⟨.hbm, 233, rfl⟩
abbrev main_call5_v3 : Ref sig .tc := ⟨.hbm, 234, rfl⟩
abbrev main_call5_v4 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_c_47 : Ref sig .tc := ⟨.hbm, 239, rfl⟩
abbrev main_v143 : Ref sig .tc := ⟨.hbm, 240, rfl⟩
abbrev main_v144 : Ref sig .tc := ⟨.hbm, 241, rfl⟩
abbrev main_c_48 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_c_49 : Ref sig .tc := ⟨.hbm, 246, rfl⟩
abbrev main_v148 : Ref sig .tc := ⟨.hbm, 247, rfl⟩
abbrev main_v149 : Ref sig .tc := ⟨.hbm, 248, rfl⟩
abbrev main_c_50 : Ref sig .tc := ⟨.hbm, 249, rfl⟩
abbrev main_v150 : Ref sig .tc := ⟨.hbm, 250, rfl⟩
abbrev main_v151 : Ref sig .tc := ⟨.hbm, 251, rfl⟩
abbrev main_v152 : Ref sig .tc := ⟨.hbm, 252, rfl⟩
abbrev main_c_51 : Ref sig .tc := ⟨.hbm, 253, rfl⟩
abbrev main_v153 : Ref sig .tc := ⟨.hbm, 254, rfl⟩
abbrev main_v154 : Ref sig .tc := ⟨.hbm, 255, rfl⟩
abbrev main_c_52 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_cst_53 : Ref sig .tc := ⟨.hbm, 275, rfl⟩
abbrev main_v173 : Ref sig .tc := ⟨.hbm, 276, rfl⟩
abbrev main_v174 : Ref sig .tc := ⟨.hbm, 277, rfl⟩
abbrev main_cst_54 : Ref sig .tc := ⟨.hbm, 278, rfl⟩
abbrev main_v175 : Ref sig .tc := ⟨.hbm, 279, rfl⟩
abbrev main_v176 : Ref sig .tc := ⟨.hbm, 280, rfl⟩
abbrev main_cst_55 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_cst_56 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_cst_57 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_c_58 : Ref sig .tc := ⟨.hbm, 293, rfl⟩
abbrev main_c_59 : Ref sig .tc := ⟨.hbm, 294, rfl⟩
abbrev main_call6_v0 : Ref sig .tc := ⟨.hbm, 295, rfl⟩
abbrev main_call6_v1 : Ref sig .tc := ⟨.hbm, 296, rfl⟩
abbrev main_call6_v2 : Ref sig .tc := ⟨.hbm, 297, rfl⟩
abbrev main_call6_v3 : Ref sig .tc := ⟨.hbm, 298, rfl⟩
abbrev main_call6_v4 : Ref sig .tc := ⟨.hbm, 299, rfl⟩
abbrev main_v186 : Ref sig .tc := ⟨.hbm, 300, rfl⟩
abbrev main_v187 : Ref sig .tc := ⟨.hbm, 301, rfl⟩
abbrev main_c_60 : Ref sig .tc := ⟨.hbm, 302, rfl⟩
abbrev main_c_61 : Ref sig .tc := ⟨.hbm, 303, rfl⟩
abbrev main_call7_v0 : Ref sig .tc := ⟨.hbm, 304, rfl⟩
abbrev main_call7_v1 : Ref sig .tc := ⟨.hbm, 305, rfl⟩
abbrev main_call7_v2 : Ref sig .tc := ⟨.hbm, 306, rfl⟩
abbrev main_call7_v3 : Ref sig .tc := ⟨.hbm, 307, rfl⟩
abbrev main_call7_v4 : Ref sig .tc := ⟨.hbm, 308, rfl⟩
abbrev main_v188 : Ref sig .tc := ⟨.hbm, 309, rfl⟩
abbrev main_v189 : Ref sig .tc := ⟨.hbm, 310, rfl⟩
abbrev main_v190 : Ref sig .tc := ⟨.hbm, 311, rfl⟩
abbrev main_c_62 : Ref sig .tc := ⟨.hbm, 312, rfl⟩
abbrev main_v191 : Ref sig .tc := ⟨.hbm, 313, rfl⟩
abbrev main_v192 : Ref sig .tc := ⟨.hbm, 314, rfl⟩
abbrev main_c_63 : Ref sig .tc := ⟨.hbm, 315, rfl⟩
abbrev main_v193 : Ref sig .tc := ⟨.hbm, 316, rfl⟩
abbrev main_v194 : Ref sig .tc := ⟨.hbm, 317, rfl⟩
abbrev main_v195 : Ref sig .tc := ⟨.hbm, 318, rfl⟩
abbrev main_c_64 : Ref sig .tc := ⟨.hbm, 319, rfl⟩
abbrev main_v196 : Ref sig .tc := ⟨.hbm, 320, rfl⟩
abbrev main_v197 : Ref sig .tc := ⟨.hbm, 321, rfl⟩
abbrev main_c_65 : Ref sig .tc := ⟨.hbm, 322, rfl⟩
abbrev main_v198 : Ref sig .tc := ⟨.hbm, 323, rfl⟩
abbrev main_v199 : Ref sig .tc := ⟨.hbm, 324, rfl⟩
abbrev main_v200 : Ref sig .tc := ⟨.hbm, 325, rfl⟩
abbrev main_c_66 : Ref sig .tc := ⟨.hbm, 326, rfl⟩
abbrev main_v201 : Ref sig .tc := ⟨.hbm, 327, rfl⟩
abbrev main_v202 : Ref sig .tc := ⟨.hbm, 328, rfl⟩
abbrev main_c_67 : Ref sig .tc := ⟨.hbm, 329, rfl⟩
abbrev main_v203 : Ref sig .tc := ⟨.hbm, 330, rfl⟩
abbrev main_v204 : Ref sig .tc := ⟨.hbm, 331, rfl⟩
abbrev main_v205 : Ref sig .tc := ⟨.hbm, 332, rfl⟩
abbrev main_v206 : Ref sig .tc := ⟨.hbm, 333, rfl⟩
abbrev main_v207 : Ref sig .tc := ⟨.hbm, 334, rfl⟩
abbrev main_v208 : Ref sig .tc := ⟨.hbm, 335, rfl⟩
abbrev main_v209 : Ref sig .tc := ⟨.hbm, 336, rfl⟩
abbrev main_v210 : Ref sig .tc := ⟨.hbm, 337, rfl⟩
abbrev main_v211 : Ref sig .tc := ⟨.hbm, 338, rfl⟩
abbrev main_v212 : Ref sig .tc := ⟨.hbm, 339, rfl⟩
abbrev main_v213 : Ref sig .tc := ⟨.hbm, 340, rfl⟩
abbrev main_v214 : Ref sig .tc := ⟨.hbm, 341, rfl⟩
abbrev main_v215 : Ref sig .tc := ⟨.hbm, 342, rfl⟩
abbrev main_v216 : Ref sig .tc := ⟨.hbm, 343, rfl⟩
abbrev main_v217 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_68 : Ref sig .tc := ⟨.hbm, 348, rfl⟩
abbrev main_v221 : Ref sig .tc := ⟨.hbm, 349, rfl⟩
abbrev main_v222 : Ref sig .tc := ⟨.hbm, 350, rfl⟩
abbrev main_cst_69 : Ref sig .tc := ⟨.hbm, 351, rfl⟩
abbrev main_v223 : Ref sig .tc := ⟨.hbm, 352, rfl⟩
abbrev main_v224 : Ref sig .tc := ⟨.hbm, 353, rfl⟩
abbrev main_cst_70 : Ref sig .tc := ⟨.hbm, 354, rfl⟩
abbrev main_v225 : Ref sig .tc := ⟨.hbm, 355, rfl⟩
abbrev main_v226 : Ref sig .tc := ⟨.hbm, 356, rfl⟩
abbrev main_cst_71 : Ref sig .tc := ⟨.hbm, 357, rfl⟩
abbrev main_v227 : Ref sig .tc := ⟨.hbm, 358, rfl⟩
abbrev main_v228 : Ref sig .tc := ⟨.hbm, 359, rfl⟩
abbrev main_v229 : Ref sig .tc := ⟨.hbm, 360, rfl⟩
abbrev main_cst_72 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_cst_73 : Ref sig .tc := ⟨.hbm, 365, rfl⟩
abbrev main_v233 : Ref sig .tc := ⟨.hbm, 366, rfl⟩
abbrev main_v234 : Ref sig .tc := ⟨.hbm, 367, rfl⟩
abbrev main_v235 : Ref sig .tc := ⟨.hbm, 368, rfl⟩
abbrev main_c_74 : Ref sig .tc := ⟨.hbm, 369, rfl⟩
abbrev main_c_75 : Ref sig .tc := ⟨.hbm, 370, rfl⟩
abbrev main_call8_v0 : Ref sig .tc := ⟨.hbm, 371, rfl⟩
abbrev main_call8_v1 : Ref sig .tc := ⟨.hbm, 372, rfl⟩
abbrev main_call8_v2 : Ref sig .tc := ⟨.hbm, 373, rfl⟩
abbrev main_call8_v3 : Ref sig .tc := ⟨.hbm, 374, rfl⟩
abbrev main_call8_v4 : Ref sig .tc := ⟨.hbm, 375, rfl⟩
abbrev main_v236 : Ref sig .tc := ⟨.hbm, 376, rfl⟩
abbrev main_v237 : Ref sig .tc := ⟨.hbm, 377, rfl⟩
abbrev main_c_76 : Ref sig .tc := ⟨.hbm, 378, rfl⟩
abbrev main_c_77 : Ref sig .tc := ⟨.hbm, 379, rfl⟩
abbrev main_call9_v0 : Ref sig .tc := ⟨.hbm, 380, rfl⟩
abbrev main_call9_v1 : Ref sig .tc := ⟨.hbm, 381, rfl⟩
abbrev main_call9_v2 : Ref sig .tc := ⟨.hbm, 382, rfl⟩
abbrev main_call9_v3 : Ref sig .tc := ⟨.hbm, 383, rfl⟩
abbrev main_call9_v4 : Ref sig .tc := ⟨.hbm, 384, rfl⟩
abbrev main_v238 : Ref sig .tc := ⟨.hbm, 385, rfl⟩
abbrev main_v239 : Ref sig .tc := ⟨.hbm, 386, rfl⟩
abbrev main_v240 : Ref sig .tc := ⟨.hbm, 387, rfl⟩
abbrev main_c_78 : Ref sig .tc := ⟨.hbm, 388, rfl⟩
abbrev main_v241 : Ref sig .tc := ⟨.hbm, 389, rfl⟩
abbrev main_v242 : Ref sig .tc := ⟨.hbm, 390, rfl⟩
abbrev main_c_79 : Ref sig .tc := ⟨.hbm, 391, rfl⟩
abbrev main_v243 : Ref sig .tc := ⟨.hbm, 392, rfl⟩
abbrev main_v244 : Ref sig .tc := ⟨.hbm, 393, rfl⟩
abbrev main_v245 : Ref sig .tc := ⟨.hbm, 394, rfl⟩
abbrev main_c_80 : Ref sig .tc := ⟨.hbm, 395, rfl⟩
abbrev main_v246 : Ref sig .tc := ⟨.hbm, 396, rfl⟩
abbrev main_v247 : Ref sig .tc := ⟨.hbm, 397, rfl⟩
abbrev main_c_81 : Ref sig .tc := ⟨.hbm, 398, rfl⟩
abbrev main_v248 : Ref sig .tc := ⟨.hbm, 399, rfl⟩
abbrev main_v249 : Ref sig .tc := ⟨.hbm, 400, rfl⟩
abbrev main_v250 : Ref sig .tc := ⟨.hbm, 401, rfl⟩
abbrev main_c_82 : Ref sig .tc := ⟨.hbm, 402, rfl⟩
abbrev main_v251 : Ref sig .tc := ⟨.hbm, 403, rfl⟩
abbrev main_v252 : Ref sig .tc := ⟨.hbm, 404, rfl⟩
abbrev main_c_83 : Ref sig .tc := ⟨.hbm, 405, rfl⟩
abbrev main_v253 : Ref sig .tc := ⟨.hbm, 406, rfl⟩
abbrev main_v254 : Ref sig .tc := ⟨.hbm, 407, rfl⟩
abbrev main_v255 : Ref sig .tc := ⟨.hbm, 408, rfl⟩
abbrev main_v256 : Ref sig .tc := ⟨.hbm, 409, rfl⟩
abbrev main_v257 : Ref sig .tc := ⟨.hbm, 410, rfl⟩
abbrev main_v258 : Ref sig .tc := ⟨.hbm, 411, rfl⟩
abbrev main_v259 : Ref sig .tc := ⟨.hbm, 412, rfl⟩
abbrev main_v260 : Ref sig .tc := ⟨.hbm, 413, rfl⟩
abbrev main_v261 : Ref sig .tc := ⟨.hbm, 414, rfl⟩
abbrev main_v262 : Ref sig .tc := ⟨.hbm, 415, rfl⟩
abbrev main_v263 : Ref sig .tc := ⟨.hbm, 416, rfl⟩
abbrev main_v264 : Ref sig .tc := ⟨.hbm, 417, rfl⟩
abbrev main_v265 : Ref sig .tc := ⟨.hbm, 418, rfl⟩
abbrev main_v266 : Ref sig .tc := ⟨.hbm, 419, rfl⟩
abbrev main_v267 : Ref sig .tc := ⟨.hbm, 420, rfl⟩
abbrev main_v268 : Ref sig .tc := ⟨.hbm, 421, rfl⟩
abbrev main_v269 : Ref sig .tc := ⟨.hbm, 422, rfl⟩
abbrev main_v270 : Ref sig .tc := ⟨.hbm, 423, rfl⟩
abbrev main_v271 : Ref sig .tc := ⟨.hbm, 424, rfl⟩
abbrev main_cst_84 : Ref sig .tc := ⟨.hbm, 425, rfl⟩
abbrev main_v272 : Ref sig .tc := ⟨.hbm, 426, rfl⟩
abbrev main_v273 : Ref sig .tc := ⟨.hbm, 427, rfl⟩

abbrev nD : Nat := 1
abbrev τ : Topo := Topo.v7x

variable {F : FTy → Type} [FloatOps F]
-- ==== Proof.Lanes.lean ====
/- What a lane of the block stands for. The block's 980 lanes are 20 boxes of 49 output positions, a position being a row
   and a column of the 7 by 7 output: the kernel computes the three numbers of a lane in 32-bit integers. -/
module

public import proofs.«01_k».proof.Proof.Gen.KernelIdeal.Frame
public import Idealize.ShloMosaic.Lib.Pointwise

@[expose] public section

set_option maxRecDepth 16384

namespace Cert.RoiPool

open Idealize.ShloMosaic Cert.KernelIdeal Cert.KernelIdeal.Gen

/-- Lane `l` belongs to box `l / 49` of the block. -/
theorem box_of_lane : ∀ l : Fin 980, kernelRun0_A.sl.v47 (ix2 0 l) = BitVec.ofNat 32 (l.val / 49) := by
  decide +kernel

/-- Lane `l` is in row `l % 49 / 7` of its box's output. -/
theorem row_of_lane : ∀ l : Fin 980, kernelRun0_A.sl.v71 (ix2 0 l) = BitVec.ofNat 32 (l.val % 49 / 7) := by
  decide +kernel

/-- Lane `l` is in column `l % 49 % 7` of its box's output. -/
theorem column_of_lane : ∀ l : Fin 980, kernelRun0_A.sl.v87 (ix2 0 l) = BitVec.ofNat 32 (l.val % 49 % 7) := by
  decide +kernel

end Cert.RoiPool

end
-- ==== Proof.Boxes.lean ====
/- What the block knows of its boxes. For each lane the kernel keeps four numbers of the lane's box, the two scales and the
   two shifts of the sampling grid, and builds each by one selection after the other, one per box of the block. A lane's
   number is that of the lane's own box. -/
module

public import proofs.«01_k».proof.Proof.Lanes
public import Idealize.ShloMosaic.Lib.WholeRead

@[expose] public section

set_option maxRecDepth 16384

namespace Cert.RoiPool

open Idealize.ShloMosaic Idealize.SL.Sem Cert.KernelIdeal Cert.KernelIdeal.Gen

variable {F : FTy → Type} [FloatOps F]

/-- The lanes' numbers after the first `n` boxes, box `r` giving the number `A r`. -/
noncomputable def chosen (A : Fin 20 → F .f32) : (n : ℕ) → n ≤ 20 → FVec F S1x980 .f32
  | 0, _ => broadcast S1x980 (Scalar.ofBits .f32 0x00000000#32)
  | n + 1, h => select (cmpi .eq kernelRun0_A.sl.v47 (broadcast S1x980 (BitVec.ofNat 32 n)))
      (broadcast S1x980 (A ⟨n, h⟩)) (chosen A n (Nat.le_of_succ_le h))

/-- The test of lane `l` against box `n` succeeds exactly when the lane's box is `n`. -/
theorem test_lane (l : Fin 980) (n : ℕ) (hn : n < 20) :
    cmpi .eq kernelRun0_A.sl.v47 (broadcast S1x980 (BitVec.ofNat 32 n)) (ix2 0 l)
      = BitVec.ofBool (decide (l.val / 49 = n)) := by
  have hl : l.val / 49 < 20 := by omega
  pointwise [box_of_lane]
  have hiff : BitVec.ofNat 32 (l.val / 49) = BitVec.ofNat 32 n ↔ l.val / 49 = n := by
    rw [← BitVec.toNat_inj, BitVec.toNat_ofNat, BitVec.toNat_ofNat, Nat.mod_eq_of_lt (by omega), Nat.mod_eq_of_lt (by omega)]
  simp only [IntOp.cmpi, beq_eq_decide, hiff]

/-- After all the boxes up to its own, a lane holds its own box's number. -/
theorem chosen_lane (A : Fin 20 → F .f32) (l : Fin 980) (q : Fin 20) (hq : l.val / 49 = q.val) :
    ∀ (n : ℕ) (hn : n ≤ 20), q.val < n → chosen A n hn (ix2 0 l) = A q
  | 0, _, h => absurd h (Nat.not_lt_zero _)
  | n + 1, hn, h => by
    have key := test_lane l n hn
    rw [hq] at key
    by_cases hqn : q.val = n
    · subst hqn
      pointwise [chosen, key]
    · pointwise [chosen, key]
      rw [if_neg hqn]
      exact chosen_lane A l q hq n (Nat.le_of_succ_le hn) (by omega)

/-- A load of one number at row `row` and column `k` of the boxes' array gives that element. -/
theorem read_box {off : Fin 2 → ℕ} (row : Fin 1000) (k : Fin 5) (hoff : off = ![row.val, k.val])
    (h : ∀ a, off a + S1x1.size a ≤ S1000x5.size a) (arg1 : Memref sig .tc .smem S1000x5 .f32) (harg1 : arg1.IsWhole)
    (x0 : Vec F S1000x5 .f32) (j : S1x1.Idx) :
    View.readAt (Elt F) arg1.view (Rect.unit (s := S1000x5) off S1x1.size h).toLoadRect (harg1.unread x0) j
      = x0 (ix2 row k) := by
  subst hoff
  rw [Memref.IsWhole.readAt_unread]
  refine congrArg x0 (funext fun a => Fin.ext ?_)
  have h0 : (j 0).val = 0 := by have : (j 0).val < 1 := (j 0).isLt; omega
  have h1 : (j 1).val = 0 := by have : (j 1).val < 1 := (j 1).isLt; omega
  fin_cases a
  · show row.val + 1 * (j 0).val = row.val
    omega
  · show k.val + 1 * (j 1).val = k.val
    omega

section

variable (c : Dev nD) (i : grid0.Coords) (arg1 : Memref sig .tc .smem S1000x5 .f32) (harg1 : arg1.IsWhole)
  (x0 : Vec F S1000x5 .f32)

/-- The row of the boxes' array that holds box `r` of block `i`. -/
def boxRow (r : Fin 20) : Fin 1000 := ⟨20 * (i 0).val + r.val, by have : (i 0).val < 50 := (i 0).isLt; omega⟩

/-- The load of one number of box `r`, at the offsets `off`. -/
noncomputable def load (off : BitVec 32 → Fin 2 → ℕ) (h : ∀ r : Fin 20, ∀ a, off (BitVec.ofNat 32 r.val) a + S1x1.size a ≤ S1000x5.size a)
    (r : Fin 20) : F .f32 :=
  View.readAt (Elt F) arg1.view (Rect.unit (s := S1000x5) (off (BitVec.ofNat 32 r.val)) S1x1.size (h r)).toLoadRect
    (harg1.unread x0) (Shape.Idx.first (s := S1x1) (by decide))

/-- A coordinate of a box in the scale of the feature map: one sixteenth of it. -/
noncomputable def sixteenth (x : F .f32) : F .f32 := Scalar.divf x (Scalar.ofBits .f32 0x41800000#32)

/-- The grid's scale along one axis, from the box's two ends on it. -/
noncomputable def scaleOf (lo hi : F .f32) : F .f32 :=
  Scalar.divf (Scalar.subf (sixteenth hi) (sixteenth lo)) (Scalar.ofBits .f32 0x42440000#32)

/-- The grid's shift along one axis, from the box's two ends on it. -/
noncomputable def shiftOf (lo hi : F .f32) : F .f32 :=
  Scalar.divf (Scalar.addf (Scalar.subf (Scalar.addf (sixteenth lo) (sixteenth hi)) (Scalar.ofBits .f32 0x42480000#32))
    (Scalar.ofBits .f32 0x3F800000#32)) (Scalar.ofBits .f32 0x42440000#32)

/-- The horizontal scale of every lane, as selections over the boxes. -/
theorem scaleX_chosen : kernelRun0_A.sl.v877 c i arg1 harg1 x0
    = chosen (fun r => scaleOf (load arg1 harg1 x0 (k0_off1 i) (k0_off1_inb i) r) (load arg1 harg1 x0 (k0_off3 i) (k0_off3_inb i) r))
        20 le_rfl := rfl

/-- The horizontal shift of every lane, as selections over the boxes. -/
theorem shiftX_chosen : kernelRun0_A.sl.v883 c i arg1 harg1 x0
    = chosen (fun r => shiftOf (load arg1 harg1 x0 (k0_off1 i) (k0_off1_inb i) r) (load arg1 harg1 x0 (k0_off3 i) (k0_off3_inb i) r))
        20 le_rfl := rfl

/-- The vertical scale of every lane, as selections over the boxes. -/
theorem scaleY_chosen : kernelRun0_A.sl.v887 c i arg1 harg1 x0
    = chosen (fun r => scaleOf (load arg1 harg1 x0 (k0_off2 i) (k0_off2_inb i) r) (load arg1 harg1 x0 (k0_off4 i) (k0_off4_inb i) r))
        20 le_rfl := rfl

/-- The vertical shift of every lane, as selections over the boxes. -/
theorem shiftY_chosen : kernelRun0_A.sl.v893 c i arg1 harg1 x0
    = chosen (fun r => shiftOf (load arg1 harg1 x0 (k0_off2 i) (k0_off2_inb i) r) (load arg1 harg1 x0 (k0_off4 i) (k0_off4_inb i) r))
        20 le_rfl := rfl

end

end Cert.RoiPool

end
-- ==== Proof.Reals.lean ====
/- The numbers of the problem as real numbers, and the operations on extended reals that give them when their operands are
   real. -/
module

public import Idealize.ShloMosaic.PureOps.Ideal
public import Idealize.ShloMosaic.PureOps.Ideal.Laws

@[expose] public section

namespace Cert.RoiPool

open Idealize.ShloMosaic

/-! ## The constants -/

/-- The pattern of `0.5` denotes one half. -/
theorem word_half : Ideal.ofBits .f32 0x3F000000#32 = ((1 / 2 : ℝ) : EReal) := by
  simp [Ideal.ofBits, Ideal.ieee, -EReal.coe_mul]; norm_num

/-- The pattern of `1.0` denotes one. -/
theorem word_one : Ideal.ofBits .f32 0x3F800000#32 = ((1 : ℝ) : EReal) := by
  simp [Ideal.ofBits, Ideal.ieee, -EReal.coe_mul]; norm_num

/-- The pattern of `-1.0` denotes minus one. -/
theorem word_neg_one : Ideal.ofBits .f32 0xBF800000#32 = ((-1 : ℝ) : EReal) := by
  simp [Ideal.ofBits, Ideal.ieee, -EReal.coe_mul]; norm_num

/-- The pattern of `13.0` denotes thirteen. -/
theorem word_13 : Ideal.ofBits .f32 0x41500000#32 = ((13 : ℝ) : EReal) := by
  simp [Ideal.ofBits, Ideal.ieee, -EReal.coe_mul]; norm_num

/-- The pattern of `16.0` denotes sixteen. -/
theorem word_16 : Ideal.ofBits .f32 0x41800000#32 = ((16 : ℝ) : EReal) := by
  simp [Ideal.ofBits, Ideal.ieee, -EReal.coe_mul]; norm_num

/-- The pattern of `49.0` denotes forty-nine. -/
theorem word_49 : Ideal.ofBits .f32 0x42440000#32 = ((49 : ℝ) : EReal) := by
  simp [Ideal.ofBits, Ideal.ieee, -EReal.coe_mul]; norm_num

/-- The pattern of `50.0` denotes fifty. -/
theorem word_50 : Ideal.ofBits .f32 0x42480000#32 = ((50 : ℝ) : EReal) := by
  simp [Ideal.ofBits, Ideal.ieee, -EReal.coe_mul]; norm_num

/-- The pattern of minus infinity denotes it. -/
theorem word_bot : Ideal.ofBits .f32 0xFF800000#32 = ⊥ := by
  simp [Ideal.ofBits, Ideal.ieee, -EReal.coe_mul]

/-- The pattern of plus infinity denotes it. -/
theorem word_top : Ideal.ofBits .f32 0x7F800000#32 = ⊤ := by
  simp [Ideal.ofBits, Ideal.ieee, -EReal.coe_mul]

/-! ## Operations at real operands -/

/-- The quotient of two reals, the second not zero, is their real quotient. -/
theorem div_real (a b : ℝ) (hb : b ≠ 0) : Ideal.div (a : EReal) (b : EReal) = ((a / b : ℝ) : EReal) := by
  rw [Ideal.div_coe hb, ← EReal.coe_mul, mul_one_div]

/-- The larger of two reals. -/
theorem max_real (a b : ℝ) : max (a : EReal) (b : EReal) = ((max a b : ℝ) : EReal) :=
  (EReal.coe_strictMono.monotone.map_max).symm

/-- The smaller of two reals. -/
theorem min_real (a b : ℝ) : min (a : EReal) (b : EReal) = ((min a b : ℝ) : EReal) :=
  (EReal.coe_strictMono.monotone.map_min).symm

/-- A real and its opposite, the larger of the two: the absolute value. -/
theorem abs_real (a : ℝ) : max (a : EReal) (-(a : EReal)) = ((|a| : ℝ) : EReal) := by
  rw [← EReal.coe_neg, max_real, abs_eq_max_neg]

/-! ## The problem's numbers -/

/-- The grid's scale along one axis for a box whose ends on that axis are `lo` and `hi`. -/
noncomputable def scaleR (lo hi : ℝ) : ℝ := (hi / 16 - lo / 16) / 49

/-- The grid's shift along one axis for a box whose ends on that axis are `lo` and `hi`. -/
noncomputable def shiftR (lo hi : ℝ) : ℝ := (lo / 16 + hi / 16 - 50 + 1) / 49

/-- Position `k` of the 14 evenly spaced positions from `-1` to `1`. -/
noncomputable def gridR (k : ℕ) : ℝ := 2 * k / 13 - 1

/-- The place in the feature map, along one axis, at which position `k` of the grid samples. -/
noncomputable def placeR (lo hi : ℝ) (k : ℕ) : ℝ := (scaleR lo hi * gridR k + shiftR lo hi + 1) * (1 / 2) * 49

/-- The weight of the feature at `0` for a place within one of it. -/
noncomputable def near0 (g : ℝ) : ℝ := 1 - |g|

/-- The weight of the feature at `1` for a place within one of `0`. -/
noncomputable def near1 (g : ℝ) : ℝ := max g 0

/-- The sample at row place `gy` and column place `gx` from the four corner features `f` (rows first). -/
noncomputable def sampleR (f : Fin 4 → ℝ) (gy gx : ℝ) : ℝ :=
  f 0 * (near0 gy * near0 gx) + f 1 * (near0 gy * near1 gx) + f 2 * (near1 gy * near0 gx) + f 3 * (near1 gy * near1 gx)

/-- The pooled value at output row `i` and column `j`: the largest of the four samples of the 2 by 2 window. The box is
    `b = (x1, y1, x2, y2)`. -/
noncomputable def pooledR (f : Fin 4 → ℝ) (b : Fin 4 → ℝ) (i j : ℕ) : ℝ :=
  let s (p q : ℕ) := sampleR f (placeR (b 1) (b 3) (2 * i + p)) (placeR (b 0) (b 2) (2 * j + q))
  max (max (max (s 0 0) (s 0 1)) (s 1 0)) (s 1 1)

end Cert.RoiPool

end
-- ==== Proof.Places.lean ====
/- Where the block samples. Over the reals, lane by lane: the grid's positions, and the two places, along the rows and along
   the columns, of the four samples of a lane. -/
module

public import proofs.«01_k».proof.Proof.Boxes
public import proofs.«01_k».proof.Proof.Reals

@[expose] public section

set_option maxRecDepth 16384

namespace Cert.RoiPool

open Idealize.ShloMosaic Idealize.SL.Sem Cert.KernelIdeal Cert.KernelIdeal.Gen

/-- The named step of the grid is two thirteenths. -/
theorem step_named : Named.named (F := Ideal) Cert.KernelIdeal.κ "step" (φ := .f32) 0x3E1D89D9#32 = ((2 / 13 : ℝ) : EReal) :=
  IdealRules.named_const.ideal_named_scalar _ _ _ _ rfl

/-- The integer `2 k + p` of a lane, as the kernel computes and converts it. -/
theorem twice_plus (k p : ℕ) (hk : k < 7) (hp : p < 2) :
    FloatOps.sitofp (F := Ideal) .f32 (IntOp.addi (IntOp.muli 2#32 (BitVec.ofNat 32 k)) (BitVec.ofNat 32 p))
      = (((2 * k + p : ℕ) : ℝ) : EReal) := by
  have h : ∀ k : Fin 7, ∀ p : Fin 2,
      (IntOp.addi (IntOp.muli 2#32 (BitVec.ofNat 32 k.val)) (BitVec.ofNat 32 p.val)).toInt = ((2 * k.val + p.val : ℕ) : ℤ) := by
    decide
  show (((_ : ℤ) : ℝ) : EReal) = _
  rw [h ⟨k, hk⟩ ⟨p, hp⟩]
  norm_cast

/-- The grid's position of an integer `2 k + p`. -/
theorem grid_position (n : ℕ) : ((n : ℝ) : EReal) * ((2 / 13 : ℝ) : EReal) - ((1 : ℝ) : EReal) = ((gridR n : ℝ) : EReal) := by
  rw [← EReal.coe_mul, ← EReal.coe_sub]
  unfold gridR
  congr 1
  ring

section Grid

variable (l : Fin 980)

/-- The first grid column of lane `l`. -/
theorem gridX0 : kernelRun0_A.sl.r (F := Ideal) (ix2 0 l) = ((gridR (2 * (l.val % 49 % 7) + 0) : ℝ) : EReal) := by
  unfold kernelRun0_A.sl.r
  pointwise [k0_pay12, kernelRun0_A.sl.v88, column_of_lane]
  rw [twice_plus _ 0 (by omega) (by omega), step_named, ← EReal.coe_one, grid_position, Nat.add_zero]

/-- The second grid column of lane `l`. -/
theorem gridX1 : k0_pay13 (F := Ideal) kernelRun0_A.sl.v87 (ix2 0 l) = ((gridR (2 * (l.val % 49 % 7) + 1) : ℝ) : EReal) := by
  pointwise [k0_pay13, column_of_lane]
  rw [twice_plus _ 1 (by omega) (by omega), step_named, ← EReal.coe_one, grid_position]

/-- The first grid row of lane `l`. -/
theorem gridY0 : k0_pay14 (F := Ideal) kernelRun0_A.sl.v71 (ix2 0 l) = ((gridR (2 * (l.val % 49 / 7) + 0) : ℝ) : EReal) := by
  pointwise [k0_pay14, row_of_lane]
  rw [twice_plus _ 0 (by omega) (by omega), step_named, ← EReal.coe_one, grid_position, Nat.add_zero]

/-- The second grid row of lane `l`. -/
theorem gridY1 : k0_pay15 (F := Ideal) kernelRun0_A.sl.v71 (ix2 0 l) = ((gridR (2 * (l.val % 49 / 7) + 1) : ℝ) : EReal) := by
  pointwise [k0_pay15, row_of_lane]
  rw [twice_plus _ 1 (by omega) (by omega), step_named, ← EReal.coe_one, grid_position]

end Grid

/-- The scale of a real box's ends is the real scale. -/
theorem scaleOf_real (lo hi : ℝ) : scaleOf (F := Ideal) (lo : EReal) (hi : EReal) = ((scaleR lo hi : ℝ) : EReal) := by
  unfold scaleOf sixteenth scaleR
  simp only [Ideal.scalar_divf_def, Ideal.scalar_subf_def, Ideal.ofBits_def, word_16, word_49,
    div_real _ 16 (by norm_num), div_real _ 49 (by norm_num), ← EReal.coe_sub]

/-- The shift of a real box's ends is the real shift. -/
theorem shiftOf_real (lo hi : ℝ) : shiftOf (F := Ideal) (lo : EReal) (hi : EReal) = ((shiftR lo hi : ℝ) : EReal) := by
  unfold shiftOf sixteenth shiftR
  simp only [Ideal.scalar_divf_def, Ideal.scalar_subf_def, Ideal.scalar_addf_def, Ideal.ofBits_def, word_16, word_49, word_50,
    word_one, div_real _ 16 (by norm_num), div_real _ 49 (by norm_num), ← EReal.coe_sub, ← EReal.coe_add]

section Place

variable (c : Dev nD) (i : grid0.Coords) (arg1 : Memref sig .tc .smem S1000x5 .f32) (harg1 : arg1.IsWhole)
  (x0 : Vec Ideal S1000x5 .f32)

/-- The box of lane `l` of block `i`. -/
def laneRow (l : Fin 980) : Fin 1000 := boxRow i ⟨l.val / 49, by omega⟩

variable (b : Fin 4 → ℝ) (l : Fin 980) (hb : ∀ k, x0 (ix2 (laneRow i l) k.succ) = ((b k : ℝ) : EReal))
include hb

/-- A lane's number of a box, given by a function of two of its ends. -/
theorem number_lane (G : Ideal .f32 → Ideal .f32 → Ideal .f32) (g : ℝ → ℝ → ℝ)
    (hG : ∀ lo hi : ℝ, G (lo : EReal) (hi : EReal) = ((g lo hi : ℝ) : EReal)) (k₁ k₂ : Fin 4)
    (off₁ off₂ : BitVec 32 → Fin 2 → ℕ) (h₁) (h₂)
    (e₁ : ∀ r : Fin 20, off₁ (BitVec.ofNat 32 r.val) = ![20 * (i 0).val + r.val, k₁.succ.val])
    (e₂ : ∀ r : Fin 20, off₂ (BitVec.ofNat 32 r.val) = ![20 * (i 0).val + r.val, k₂.succ.val]) :
    chosen (F := Ideal) (fun r => G (load arg1 harg1 x0 off₁ h₁ r) (load arg1 harg1 x0 off₂ h₂ r)) 20 le_rfl (ix2 0 l)
      = ((g (b k₁) (b k₂) : ℝ) : EReal) := by
  rw [chosen_lane _ l ⟨l.val / 49, by omega⟩ rfl 20 le_rfl (by show l.val / 49 < 20; omega)]
  unfold load
  rw [read_box (laneRow i l) k₁.succ (e₁ _), read_box (laneRow i l) k₂.succ (e₂ _), hb, hb, hG]

theorem scaleX_lane : kernelRun0_A.sl.v877 c i arg1 harg1 x0 (ix2 0 l) = ((scaleR (b 0) (b 2) : ℝ) : EReal) := by
  rw [scaleX_chosen]
  exact number_lane i arg1 harg1 x0 b l hb _ _ scaleOf_real 0 2 _ _ _ _ (k0_off1_eq i) (k0_off3_eq i)

theorem shiftX_lane : kernelRun0_A.sl.v883 c i arg1 harg1 x0 (ix2 0 l) = ((shiftR (b 0) (b 2) : ℝ) : EReal) := by
  rw [shiftX_chosen]
  exact number_lane i arg1 harg1 x0 b l hb _ _ shiftOf_real 0 2 _ _ _ _ (k0_off1_eq i) (k0_off3_eq i)

theorem scaleY_lane : kernelRun0_A.sl.v887 c i arg1 harg1 x0 (ix2 0 l) = ((scaleR (b 1) (b 3) : ℝ) : EReal) := by
  rw [scaleY_chosen]
  exact number_lane i arg1 harg1 x0 b l hb _ _ scaleOf_real 1 3 _ _ _ _ (k0_off2_eq i) (k0_off4_eq i)

theorem shiftY_lane : kernelRun0_A.sl.v893 c i arg1 harg1 x0 (ix2 0 l) = ((shiftR (b 1) (b 3) : ℝ) : EReal) := by
  rw [shiftY_chosen]
  exact number_lane i arg1 harg1 x0 b l hb _ _ shiftOf_real 1 3 _ _ _ _ (k0_off2_eq i) (k0_off4_eq i)

end Place

/-- The place of a grid position, from a real scale, grid position and shift. -/
theorem place_real (lo hi : ℝ) (k : ℕ) :
    (((scaleR lo hi : ℝ) : EReal) * ((gridR k : ℝ) : EReal) + ((shiftR lo hi : ℝ) : EReal) + ((1 : ℝ) : EReal)) * ((1 / 2 : ℝ) : EReal)
      * ((49 : ℝ) : EReal) = ((placeR lo hi k : ℝ) : EReal) := by
  unfold placeR
  simp only [← EReal.coe_mul, ← EReal.coe_add]

section Place

variable (c : Dev nD) (i : grid0.Coords) (arg1 : Memref sig .tc .smem S1000x5 .f32) (harg1 : arg1.IsWhole)
  (x0 : Vec Ideal S1000x5 .f32) (b : Fin 4 → ℝ) (l : Fin 980) (hb : ∀ k, x0 (ix2 (laneRow i l) k.succ) = ((b k : ℝ) : EReal))
include hb

/-- The row place of a lane's first two samples. -/
theorem placeY0 : kernelRun0_A.sl.v909 c i arg1 harg1 x0 (ix2 0 l) = ((placeR (b 1) (b 3) (2 * (l.val % 49 / 7) + 0) : ℝ) : EReal) := by
  rw [← place_real, ← scaleY_lane c i arg1 harg1 x0 b l hb, ← shiftY_lane c i arg1 harg1 x0 b l hb, ← gridY0, ← word_one, ← word_half, ← word_49]
  rfl

/-- The row place of a lane's last two samples. -/
theorem placeY1 : kernelRun0_A.sl.v965 c i arg1 harg1 x0 (ix2 0 l) = ((placeR (b 1) (b 3) (2 * (l.val % 49 / 7) + 1) : ℝ) : EReal) := by
  rw [← place_real, ← scaleY_lane c i arg1 harg1 x0 b l hb, ← shiftY_lane c i arg1 harg1 x0 b l hb, ← gridY1, ← word_one, ← word_half, ← word_49]
  rfl

/-- The column place of a lane's first and third samples. -/
theorem placeX0 : kernelRun0_A.sl.v922 c i arg1 harg1 x0 (ix2 0 l) = ((placeR (b 0) (b 2) (2 * (l.val % 49 % 7) + 0) : ℝ) : EReal) := by
  rw [← place_real, ← scaleX_lane c i arg1 harg1 x0 b l hb, ← shiftX_lane c i arg1 harg1 x0 b l hb, ← gridX0, ← word_one, ← word_half, ← word_49]
  rfl

/-- The column place of a lane's second and fourth samples. -/
theorem placeX1 : kernelRun0_A.sl.v943 c i arg1 harg1 x0 (ix2 0 l) = ((placeR (b 0) (b 2) (2 * (l.val % 49 % 7) + 1) : ℝ) : EReal) := by
  rw [← place_real, ← scaleX_lane c i arg1 harg1 x0 b l hb, ← shiftX_lane c i arg1 harg1 x0 b l hb, ← gridX1, ← word_one, ← word_half, ← word_49]
  rfl

end Place

end Cert.RoiPool

end
-- ==== Proof.Block.lean ====
/- What one block computes. A lane's value for a channel is the largest of four products, one per sample of the lane's 2 by 2
   window, each product the channel's four corner features against four weights; the kernel multiplies by the weights twice,
   the second time against what rounding the features left out, which over the reals is zero. -/
module

public import proofs.«01_k».proof.Proof.Places

@[expose] public section

set_option maxRecDepth 16384

namespace Cert.RoiPool

open Idealize.ShloMosaic Idealize.SL.Sem Cert.KernelIdeal Cert.KernelIdeal.Gen Cert.KernelIdeal.Facts

/-- The left factor of the products: the four corner features, then what rounding them left out. -/
theorem features_columns (c : Dev nD) (arg2 : Memref sig .tc .vmem S256x4 .f32) (harg2 : arg2.IsWhole) (x1 : Vec Ideal S256x4 .f32)
    (ch : Fin 256) (k : Fin 8) :
    kernelRun0_A.sl.v6 c arg2 harg2 x1 (ix2 ch k) = if h : k.val < 4 then x1 (ix2 ch ⟨k.val, h⟩)
      else (x1 (ix2 ch ⟨k.val - 4, by omega⟩) - x1 (ix2 ch ⟨k.val - 4, by omega⟩) : EReal) := by
  unfold kernelRun0_A.sl.v6 kernelRun0_A.sl.v5 kernelRun0_A.sl.v4 kernelRun0_A.sl.v3 kernelRun0_A.sl.v2 kernelRun0_A.sl.v1
  pointwise [View.readAt_eq_ld, Memref.IsWhole.read_unread]

/-- At real features the left factor is the features, then zeros. -/
theorem features_real (c : Dev nD) (arg2 : Memref sig .tc .vmem S256x4 .f32) (harg2 : arg2.IsWhole) (x1 : Vec Ideal S256x4 .f32)
    (ch : Fin 256) (f : Fin 4 → ℝ) (hf : ∀ k, x1 (ix2 ch k) = ((f k : ℝ) : EReal)) (k : Fin 8) :
    kernelRun0_A.sl.v6 c arg2 harg2 x1 (ix2 ch k) = if h : k.val < 4 then ((f ⟨k.val, h⟩ : ℝ) : EReal) else ((0 : ℝ) : EReal) := by
  rw [features_columns]
  split
  · exact hf _
  · rw [hf, ← EReal.coe_sub, sub_self]

section Product

variable (X : FVec Ideal S256x8 .bf16) (w0 w1 w2 w3 : FVec Ideal S1x980 .f32)

/-- The right factor of a product: four rows of weights, twice. -/
noncomputable def weightRows : FVec Ideal S8x980 .bf16 :=
  have w : FVec Ideal S4x980 .bf16 := truncf .bf16 (concatenate S4x980 0 [⟨S1x980, w0⟩, ⟨S1x980, w1⟩, ⟨S1x980, w2⟩, ⟨S1x980, w3⟩]
    concatenates_S1x980_S1x980_S1x980_S1x980_S4x980_d0) bitsLt_bf16_f32
  concatenate S8x980 0 [⟨S4x980, w⟩, ⟨S4x980, w⟩] concatenates_S4x980_S4x980_S8x980_d0

/-- The product of features and weights. -/
noncomputable def product : FVec Ideal S256x980 .f32 :=
  matmul dot_S256x8_S8x980_S256x980_1_0_0_1_n_n none X (weightRows w0 w1 w2 w3) (constant S256x980 .f32 0x00000000#32)

/-- At real features and weights, an element of the product is the sum of the four features by their weights. -/
theorem product_real (ch : Fin 256) (l : Fin 980) (f W : Fin 4 → ℝ)
    (hX : ∀ k : Fin 8, X (ix2 ch k) = if h : k.val < 4 then ((f ⟨k.val, h⟩ : ℝ) : EReal) else ((0 : ℝ) : EReal))
    (h0 : w0 (ix2 0 l) = ((W 0 : ℝ) : EReal)) (h1 : w1 (ix2 0 l) = ((W 1 : ℝ) : EReal))
    (h2 : w2 (ix2 0 l) = ((W 2 : ℝ) : EReal)) (h3 : w3 (ix2 0 l) = ((W 3 : ℝ) : EReal)) :
    product X w0 w1 w2 w3 (ix2 ch l) = ((f 0 * W 0 + f 1 * W 1 + f 2 * W 2 + f 3 * W 3 : ℝ) : EReal) := by
  pointwise [product, weightRows]
  rw [Fin.sum_univ_eight]
  simp only [hX]
  simp [h0, h1, h2, h3]

end Product

section Sample

variable (c : Dev nD) (i : grid0.Coords) (arg1 : Memref sig .tc .smem S1000x5 .f32) (harg1 : arg1.IsWhole)
  (arg2 : Memref sig .tc .vmem S256x4 .f32) (harg2 : arg2.IsWhole) (x0 : Vec Ideal S1000x5 .f32) (x1 : Vec Ideal S256x4 .f32)

/-- The weights of the feature at `0` along one axis, for all lanes. -/
noncomputable def far (g : FVec Ideal S1x980 .f32) : FVec Ideal S1x980 .f32 :=
  subf (broadcast S1x980 (Scalar.ofBits .f32 0x3F800000#32)) (absf g)

/-- The weights of the feature at `1` along one axis, for all lanes. -/
noncomputable def close (g : FVec Ideal S1x980 .f32) : FVec Ideal S1x980 .f32 :=
  maximumf g (broadcast S1x980 (Scalar.ofBits .f32 0x00000000#32))

/-- The samples at the row places `gy` and the column places `gx`, for all channels and lanes. -/
noncomputable def samples (X : FVec Ideal S256x8 .bf16) (gy gx : FVec Ideal S1x980 .f32) : FVec Ideal S256x980 .f32 :=
  product X (mulf (far gy) (far gx)) (mulf (far gy) (close gx)) (mulf (close gy) (far gx)) (mulf (close gy) (close gx))

/-- At real features and places a sample is the real sample. -/
theorem samples_real (X : FVec Ideal S256x8 .bf16) (gy gx : FVec Ideal S1x980 .f32) (ch : Fin 256) (l : Fin 980) (f : Fin 4 → ℝ)
    (hX : ∀ k : Fin 8, X (ix2 ch k) = if h : k.val < 4 then ((f ⟨k.val, h⟩ : ℝ) : EReal) else ((0 : ℝ) : EReal))
    (y x : ℝ) (hy : gy (ix2 0 l) = ((y : ℝ) : EReal)) (hx : gx (ix2 0 l) = ((x : ℝ) : EReal)) :
    samples X gy gx (ix2 ch l) = ((sampleR f y x : ℝ) : EReal) := by
  have hfar (g : FVec Ideal S1x980 .f32) (r : ℝ) (h : g (ix2 0 l) = ((r : ℝ) : EReal)) :
      far g (ix2 0 l) = ((near0 r : ℝ) : EReal) := by
    show Ideal.ofBits .f32 0x3F800000#32 - max (g (ix2 0 l)) (-(g (ix2 0 l))) = _
    rw [h, abs_real, word_one, ← EReal.coe_sub]; rfl
  have hclose (g : FVec Ideal S1x980 .f32) (r : ℝ) (h : g (ix2 0 l) = ((r : ℝ) : EReal)) :
      close g (ix2 0 l) = ((near1 r : ℝ) : EReal) := by
    show max (g (ix2 0 l)) (Ideal.ofBits .f32 0x00000000#32) = _
    rw [h, Ideal.ofBits_zero_f32, ← EReal.coe_zero, max_real]; rfl
  have hmul (a b : FVec Ideal S1x980 .f32) (p q : ℝ) (ha : a (ix2 0 l) = ((p : ℝ) : EReal)) (hb : b (ix2 0 l) = ((q : ℝ) : EReal)) :
      mulf a b (ix2 0 l) = ((p * q : ℝ) : EReal) := by
    show a (ix2 0 l) * b (ix2 0 l) = _
    rw [ha, hb, ← EReal.coe_mul]
  exact product_real X _ _ _ _ ch l f
    ![near0 y * near0 x, near0 y * near1 x, near1 y * near0 x, near1 y * near1 x] hX
    (hmul _ _ _ _ (hfar _ _ hy) (hfar _ _ hx)) (hmul _ _ _ _ (hfar _ _ hy) (hclose _ _ hx))
    (hmul _ _ _ _ (hclose _ _ hy) (hfar _ _ hx)) (hmul _ _ _ _ (hclose _ _ hy) (hclose _ _ hx))

/-- The block's values are the largest of the four samples, lane by lane. -/
theorem block_samples : kernelRun0_A.sl.v1014 c i arg1 harg1 arg2 harg2 x0 x1
    = maximumf (maximumf (maximumf
        (samples (kernelRun0_A.sl.v6 c arg2 harg2 x1) (kernelRun0_A.sl.v909 c i arg1 harg1 x0) (kernelRun0_A.sl.v922 c i arg1 harg1 x0))
        (samples (kernelRun0_A.sl.v6 c arg2 harg2 x1) (kernelRun0_A.sl.v909 c i arg1 harg1 x0) (kernelRun0_A.sl.v943 c i arg1 harg1 x0)))
        (samples (kernelRun0_A.sl.v6 c arg2 harg2 x1) (kernelRun0_A.sl.v965 c i arg1 harg1 x0) (kernelRun0_A.sl.v922 c i arg1 harg1 x0)))
        (samples (kernelRun0_A.sl.v6 c arg2 harg2 x1) (kernelRun0_A.sl.v965 c i arg1 harg1 x0) (kernelRun0_A.sl.v943 c i arg1 harg1 x0)) :=
  rfl

/-- At real corner features and a real box, the block's value for channel `ch` and lane `l` is the pooled value of the lane's
    box at the lane's output row and column. -/
theorem block_real (ch : Fin 256) (l : Fin 980) (f : Fin 4 → ℝ) (hf : ∀ k, x1 (ix2 ch k) = ((f k : ℝ) : EReal))
    (b : Fin 4 → ℝ) (hb : ∀ k : Fin 4, x0 (ix2 (laneRow i l) k.succ) = ((b k : ℝ) : EReal)) :
    kernelRun0_A.sl.v1014 c i arg1 harg1 arg2 harg2 x0 x1 (ix2 ch l)
      = ((pooledR f b (l.val % 49 / 7) (l.val % 49 % 7) : ℝ) : EReal) := by
  have hX := features_real c arg2 harg2 x1 ch f hf
  have hY0 := placeY0 c i arg1 harg1 x0 b l hb
  have hY1 := placeY1 c i arg1 harg1 x0 b l hb
  have hX0 := placeX0 c i arg1 harg1 x0 b l hb
  have hX1 := placeX1 c i arg1 harg1 x0 b l hb
  rw [block_samples]
  show max (max (max (samples _ _ _ (ix2 ch l)) (samples _ _ _ (ix2 ch l))) (samples _ _ _ (ix2 ch l))) (samples _ _ _ (ix2 ch l)) = _
  rw [samples_real _ _ _ ch l f hX _ _ hY0 hX0, samples_real _ _ _ ch l f hX _ _ hY0 hX1, samples_real _ _ _ ch l f hX _ _ hY1 hX0,
    samples_real _ _ _ ch l f hX _ _ hY1 hX1, max_real, max_real, max_real]
  rfl

end Sample

end Cert.RoiPool

end
-- ==== Proof.Stored.lean ====
/- What a grid point stores. Its twenty stores together leave, at box `r`, channel `ch` and position `p` of the output block,
   the pooled value of lane `49 r + p`. -/
module

public import proofs.«01_k».proof.Proof.Block
public import proofs.«01_k».proof.Proof.Gen.KernelIdeal.Frame

@[expose] public section

set_option maxRecDepth 16384

namespace Cert.RoiPool

open Idealize.ShloMosaic Idealize.SL.Sem Cert.KernelIdeal Cert.KernelIdeal.Gen

/-- The lane of position `p` of box `r`. -/
def laneAt (r : Fin 20) (p : Fin 49) : Fin 980 := ⟨49 * r.val + p.val, by omega⟩

/-- The block with its lanes split into boxes and positions. -/
def split (v : FVec Ideal S256x980 .f32) : FVec Ideal S20x256x49 .f32 :=
  fun y => v (ix2 (y 1) (laneAt (y 0) (y 2)))

/-- Cutting the lanes of box `r` out of the block, as the kernel does, is reading the split block at box `r`. -/
theorem cut_split (v : FVec Ideal S256x980 .f32) (r : ℕ) (hr : r < 20) (o : Fin 2 → ℕ) (ho : o = ![0, 49 * r])
    (h : S256x980.Slices o S256x49) (hc : S256x49.ShapeCasts S1x256x49)
    (hin : ∀ d, (![r, 0, 0] : Fin 3 → ℕ) d + S1x256x49.size d ≤ S20x256x49.size d) (x : S1x256x49.Idx) :
    (shapeCast S1x256x49 (extractStridedSlice S256x49 o v h) hc : FVec Ideal S1x256x49 .f32) x
      = split v ((Rect.unit (s := S20x256x49) ![r, 0, 0] S1x256x49.size hin).emb x) := by
  subst ho
  have h₀ : (x 0).val < 1 := (x 0).isLt
  idx_vars x
  pointwise [split]
  have he : ∀ a : Fin 3, ((Rect.unit (s := S20x256x49) ![r, 0, 0] S1x256x49.size hin).emb (ix3 x0 x1 x2) a).val
      = (![r, 0, 0] : Fin 3 → ℕ) a + ((ix3 x0 x1 x2 : S1x256x49.Idx) a).val := fun a => by
    rw [Rect.emb_apply]
    exact congrArg _ (Nat.one_mul _)
  refine congrArg₂ (fun a b => v (ix2 a b)) (Fin.ext ((he 1).trans (Nat.zero_add _)).symm) (Fin.ext ?_)
  show 49 * r + x2.val = 49 * _ + _
  rw [he 0, he 2]
  show 49 * r + x2.val = 49 * (r + x0.val) + (0 + x2.val)
  omega

variable (c : Dev nD) (i : grid0.Coords)
  (arg1 : Memref sig .tc .smem S1000x5 .f32) (harg1 : arg1.IsWhole)
  (arg2 : Memref sig .tc .vmem S256x4 .f32) (harg2 : arg2.IsWhole)
  (arg3 : Memref sig .tc .vmem S20x256x49 .f32) (harg3 : arg3.IsWhole)
  (x0 : Vec Ideal S1000x5 .f32) (x1 : Vec Ideal S256x4 .f32)

/-- The stores of a grid point leave the split block. -/
theorem stored (y : S20x256x49.Idx) :
    out0_A_2 c i arg1 harg1 arg2 harg2 arg3 harg3 x0 x1 y
      = split (kernelRun0_A.sl.v1014 c i arg1 harg1 arg2 harg2 x0 x1) y := by
  refine View.read_writes_apply_of_pieces VO0_2 _ _ _ ?_ y (cover0_A_2 c i arg1 harg1 arg2 harg2 arg3 harg3 x0 x1 y)
  dsimp only [kernelRun0_A, kernelRun0_A.sl.r_81, k0_pay1, k0_pay227]
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_⟩ <;>
    (intro x; refine cut_split _ _ ?_ _ ?_ _ _ _ x <;> first | rfl | decide)

end Cert.RoiPool
-- ==== Proof.Array.lean ====
/- What the output array holds after the grid has run: at box `n`, channel `ch` and position `p`, the pooled value of the box at
   row `p / 7` and column `p % 7`. -/
module

public import proofs.«01_k».proof.Proof.Stored
public import Idealize.ShloMosaic.Lib.Pipeline.ValueKit
public import Idealize.ShloMosaic.Lib.Claim

@[expose] public section

set_option maxRecDepth 16384

namespace Cert.RoiPool

open Idealize.ShloMosaic Idealize.ShloMosaic.TcCoe Idealize.SL.Sem Cert.KernelIdeal Cert.KernelIdeal.Gen

variable (m : (ℓ : Loc nD τ sig) → Buf (Elt Ideal) ℓ) (c : Dev nD)

/-- At every grid point the table of boxes is the whole argument. -/
theorem boxes_block (t : Fin cfg0.N) (n : Fin 1000) (k : Fin 5) :
    iblk m c 0 t (ix2 n k) = m ((c : Thread nD τ).loc main_arg1) (ix2 n k) := by
  have e : ∀ t : Fin cfg0.N, win0_0.index t = ![0, 0] := (by decide +kernel : ∀ t : Fin grid0.N, _)
  blk_simp [iblk]
  rw [V_main_arg1]
  blk_ext [e]

/-- Before the grid runs the features are sliced to the four corners and laid out as four columns. -/
theorem corners : V m c main_call0_v2
    = shapeCast S256x4 (shapeCast S256x2x2 (extractStridedSlice S1x256x2x2 ![0, 0, 0, 0] (m ((c : Thread nD τ).loc main_arg0))
        slices_S1x256x50x50_S1x256x2x2_0_0_0_0) shapeCasts_S1x256x2x2_S256x2x2) shapeCasts_S256x2x2_S256x4 := rfl

/-- At every grid point the block of features is the four corner features of each channel. -/
theorem features_block (t : Fin cfg0.N) (ch : Fin 256) (k : Fin 4) :
    iblk m c 1 t (ix2 ch k)
      = m ((c : Thread nD τ).loc main_arg0) (ix4 0 ch ⟨k.val / 2, by omega⟩ ⟨k.val % 2, by omega⟩) := by
  have e : ∀ t : Fin cfg0.N, win0_1.index t = ![0, 0] := (by decide +kernel : ∀ t : Fin grid0.N, _)
  have h : ((cfg0.win 1).blk t).view.emb (ix2 ch k) = (ix2 ch k : S256x4.Idx) := by blk_ext [e]
  show V m c main_call0_v2 (((cfg0.win 1).blk t).view.emb (ix2 ch k)) = _
  rw [h, corners]
  pointwise

/-- The value of the output array. -/
noncomputable def pooledArray (f : Fin 256 → Fin 4 → ℝ) (b : Fin 1000 → Fin 4 → ℝ) : S1000x256x49.Idx → EReal :=
  fun y => ((pooledR (f (y 1)) (b (y 0)) ((y 2).val / 7) ((y 2).val % 7) : ℝ) : EReal)

/-- After the run the output array holds the pooled values, when the corner features and the boxes are real numbers. -/
theorem array_real (f : Fin 256 → Fin 4 → ℝ) (b : Fin 1000 → Fin 4 → ℝ)
    (hf : ∀ (ch : Fin 256) (k : Fin 4),
      m ((c : Thread nD τ).loc main_arg0) (ix4 0 ch ⟨k.val / 2, by omega⟩ ⟨k.val % 2, by omega⟩) = ((f ch k : ℝ) : EReal))
    (hb : ∀ (n : Fin 1000) (k : Fin 4), m ((c : Thread nD τ).loc main_arg1) (ix2 n k.succ) = ((b n k : ℝ) : EReal)) :
    (dats m 0 c).arrAt 2 cfg0.N = pooledArray f b := by
  have e : ∀ t : Fin cfg0.N, win0_2.index t = ![(grid0.coords t 0).val, 0, 0] :=
    (by decide +kernel : ∀ t : Fin grid0.N, _)
  refine (dats m 0 c).arrAt_eq_of_covers 2 _ (by decide +kernel) fun t hft y => ?_
  blk_simp
  rw [after0_2]
  unfold outsAt0
  rw [stored]
  unfold split
  rw [block_real _ _ _ _ _ _ _ _ _ _ (f (y 1)) (fun k => (features_block m c t _ k).trans (hf _ k))
    (b (laneRow (grid0.coords t) (laneAt (y 0) (y 2)))) (fun k => (boxes_block m c t _ _).trans (hb _ k))]
  unfold pooledArray
  have h₀ : (y 0).val < 20 := (y 0).isLt
  have h₂ : (y 2).val < 49 := (y 2).isLt
  have hn : laneRow (grid0.coords t) (laneAt (y 0) (y 2)) = ((cfg0.win 2).blk t).view.emb y 0 := by
    refine Fin.ext ?_
    blk_simp [e]
    simp only [laneRow, boxRow, laneAt]
    omega
  have hc : (y 1 : Fin 256) = ((cfg0.win 2).blk t).view.emb y 1 := by
    refine Fin.ext ?_
    blk_simp [e]
  have hp : (((cfg0.win 2).blk t).view.emb y 2).val = (y 2).val := by
    blk_simp [e]
  have hl : (laneAt (y 0) (y 2)).val % 49 = (y 2).val := by
    simp only [laneAt]
    omega
  rw [hl, hn, hc, ← hp]

/-- The pooled values as the result: the positions of a box laid out as seven rows of seven. -/
noncomputable def pooledResult (f : Fin 256 → Fin 4 → ℝ) (b : Fin 1000 → Fin 4 → ℝ) : S1000x256x7x7.Idx → EReal :=
  fun y => ((pooledR (f (y 1)) (b (y 0)) (y 2).val (y 3).val : ℝ) : EReal)

/-- Laying out the positions of the array as seven rows of seven gives the result. -/
theorem pooledResult_cast (f : Fin 256 → Fin 4 → ℝ) (b : Fin 1000 → Fin 4 → ℝ) :
    shapeCast S1000x256x7x7 (pooledArray f b) shapeCasts_S1000x256x49_S1000x256x7x7 = pooledResult f b := by
  funext y
  idx_vars y
  pointwise [pooledArray, pooledResult]
  rw [show (y2.val * 7 + y3.val) / 7 = y2.val by omega, show (y2.val * 7 + y3.val) % 7 = y3.val by omega]

/-- The run of the whole kernel leaves the pooled values as its result and its arguments as they were. -/
theorem kernel_run (ρ : Dev nD → PrngReg) (f : Dev nD → Fin 256 → Fin 4 → ℝ) (b : Dev nD → Fin 1000 → Fin 4 → ℝ)
    (hf : ∀ (c : Dev nD) (ch : Fin 256) (k : Fin 4),
      m ((c : Thread nD τ).loc main_arg0) (ix4 0 ch ⟨k.val / 2, by omega⟩ ⟨k.val % 2, by omega⟩) = ((f c ch k : ℝ) : EReal))
    (hb : ∀ (c : Dev nD) (n : Fin 1000) (k : Fin 4), m ((c : Thread nD τ).loc main_arg1) (ix2 n k.succ) = ((b c n k : ℝ) : EReal)) :
    θ_run defs (onTc (τ := τ) (main (F := Ideal))) ⟨m, fun _ => 0, ρ⟩ fun r => ∀ c : Dev nD,
      r.2.mem ((c : Thread nD τ).loc main_v0) = pooledResult (f c) (b c)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_, h.2 c⟩) (θ_run_and (run_main m ρ) (unchanged m ρ))
  have hr := (h.1 c).2 main_v0 (Pipeline.mem_restRefs_of main_v0 (by decide) (by decide))
  have ha : Pipeline.withArrays spec0 c (V0 m c) (fun w => (dats m 0 c).arrAt w cfg0.N) (Proc.devRef .tc main_call0_v3)
      = pooledArray (f c) (b c) :=
    (Pipeline.withArrays_arr spec0 launch0.win.arr_inj c (V0 m c) _ 2).trans (array_real m c (f c) (b c) (hf c) (hb c))
  refine hr.trans (Eq.trans ?_ (pooledResult_cast (f c) (b c)))
  rw [← ha]
  rfl

end Cert.RoiPool
-- ==== Proof.RefPlaces.lean ====
/- Where the reference samples. Over the reals: the grid's positions, and the places along the rows and along the columns at
   which it samples for each box. -/
module

public import proofs.«01_k».proof.Proof.Reals
public import proofs.«01_k».proof.Proof.Gen.ReferenceIdeal.Run
public import Idealize.ShloMosaic.Lib.Pointwise
public import Idealize.ShloMosaic.Lib.Tactic.CleanTypes

@[expose] public section

set_option maxRecDepth 16384

namespace Cert.RoiPool

open Idealize.ShloMosaic Idealize.SL.Sem Cert.ReferenceIdeal Cert.ReferenceIdeal.Gen Cert.ReferenceIdeal.Value

variable (V : Valuation τ sig (Elt Ideal))

/-- The positions of the reference's grid. -/
theorem ref_grid (k : Fin 14) : res_main_v35 V (ix1 k) = ((gridR k.val : ℝ) : EReal) := by
  have hw : FloatOps.sitofp (F := Ideal) .f32 (BitVec.ofNat 32 k.val) = ((k.val : ℝ) : EReal) := by
    show (((BitVec.ofNat 32 k.val).toInt : ℝ) : EReal) = _
    rw [BitVec.toInt_eq_toNat_of_lt (by rw [BitVec.toNat_ofNat]; omega), BitVec.toNat_ofNat, Nat.mod_eq_of_lt (by omega)]
    simp
  have h₁ : (id (constant (F := Ideal) S_ FTy.f32 1065353216#32) : FVec Ideal S_ .f32) ix0 = ((1 : ℝ) : EReal) := word_one
  have h₂ : (id (constant (F := Ideal) S_ FTy.f32 3212836864#32) : FVec Ideal S_ .f32) ix0 = ((-1 : ℝ) : EReal) := word_neg_one
  unfold res_main_v35
  clean_types
  pointwise [res_main_call0_v0, res_main_call0_v1, res_main_call0_v6]
  rw [hw, h₁, h₂, word_13, div_real _ _ (by norm_num), ← EReal.coe_one]
  unfold gridR
  split
  · rw [← EReal.coe_sub, ← EReal.coe_mul, ← EReal.coe_mul, ← EReal.coe_add]
    exact congrArg _ (by ring)
  · have hk : k.val = 13 := by omega
    rw [hk]
    norm_num

/-- The scale of the grid from the scaled ends of a box. -/
theorem scale_real (lo hi : ℝ) :
    Ideal.div (((hi / 16 : ℝ) : EReal) - ((lo / 16 : ℝ) : EReal)) ((49 : ℝ) : EReal) = ((scaleR lo hi : ℝ) : EReal) := by
  rw [← EReal.coe_sub, div_real _ _ (by norm_num)]
  rfl

/-- The shift of the grid from the scaled ends of a box. -/
theorem shift_real (lo hi : ℝ) :
    Ideal.div (((lo / 16 : ℝ) : EReal) + ((hi / 16 : ℝ) : EReal) - ((50 : ℝ) : EReal) + 1) ((49 : ℝ) : EReal)
      = ((shiftR lo hi : ℝ) : EReal) := by
  rw [← EReal.coe_one, ← EReal.coe_add, ← EReal.coe_sub, ← EReal.coe_add, div_real _ _ (by norm_num)]
  rfl

variable (b : Fin 1000 → Fin 4 → ℝ)
  (hb : ∀ (n : Fin 1000) (k : Fin 4), V (Proc.devRef .tc main_arg1) (ix2 n k.succ) = ((b n k : ℝ) : EReal))
include hb

/-! ## The ends of a box, on the scale of the feature map -/

/-- The left end of each box, divided by sixteen. -/
theorem ref_left (n : Fin 1000) : res_main_v2 V (ix2 n 0) = ((b n 0 / 16 : ℝ) : EReal) := by
  unfold res_main_v2
  clean_types
  pointwise
  rw [← div_real _ _ (by norm_num), ← word_16, ← hb n 0]
  rfl

/-- The top end of each box, divided by sixteen. -/
theorem ref_top (n : Fin 1000) : res_main_v5 V (ix2 n 0) = ((b n 1 / 16 : ℝ) : EReal) := by
  unfold res_main_v5
  clean_types
  pointwise
  rw [← div_real _ _ (by norm_num), ← word_16, ← hb n 1]
  rfl

/-- The right end of each box, divided by sixteen. -/
theorem ref_right (n : Fin 1000) : res_main_v8 V (ix2 n 0) = ((b n 2 / 16 : ℝ) : EReal) := by
  unfold res_main_v8
  clean_types
  pointwise
  rw [← div_real _ _ (by norm_num), ← word_16, ← hb n 2]
  rfl

/-- The bottom end of each box, divided by sixteen. -/
theorem ref_bottom (n : Fin 1000) : res_main_v11 V (ix2 n 0) = ((b n 3 / 16 : ℝ) : EReal) := by
  unfold res_main_v11
  clean_types
  pointwise
  rw [← div_real _ _ (by norm_num), ← word_16, ← hb n 3]
  rfl

/-! ## The transformed grid -/

/-- The column coordinate of the transformed grid. -/
theorem ref_pairX (n : Fin 1000) (i j : Fin 14) :
    res_main_v44 V (ix4 n i j 0)
      = ((scaleR (b n 0) (b n 2) * gridR j.val + shiftR (b n 0) (b n 2) : ℝ) : EReal) := by
  unfold res_main_v44
  clean_types
  pointwise [res_main_v12]
  simp [Fin.sum_univ_three]
  rw [ref_grid, ref_left V b hb, ref_right V b hb, word_49, word_50, scale_real, shift_real, mul_comm]

/-- The row coordinate of the transformed grid. -/
theorem ref_pairY (n : Fin 1000) (i j : Fin 14) :
    res_main_v44 V (ix4 n i j 1)
      = ((scaleR (b n 1) (b n 3) * gridR i.val + shiftR (b n 1) (b n 3) : ℝ) : EReal) := by
  unfold res_main_v44
  clean_types
  pointwise [res_main_v12]
  simp [Fin.sum_univ_three]
  rw [ref_grid, ref_top V b hb, ref_bottom V b hb, word_49, word_50, scale_real, shift_real, mul_comm]

/-- The place along the rows at which the reference samples for row `i` of its grid. -/
theorem ref_placeY (n : Fin 1000) (i j : Fin 14) :
    res_main_v63 V (ix3 n i j) = ((placeR (b n 1) (b n 3) i.val : ℝ) : EReal) := by
  unfold res_main_v63
  clean_types
  pointwise [res_main_v51]
  rw [ref_pairY V b hb, word_half, word_49, ← EReal.coe_one, ← EReal.coe_add, ← EReal.coe_mul, ← EReal.coe_mul]
  rfl

/-- The place along the columns at which the reference samples for column `j` of its grid. -/
theorem ref_placeX (n : Fin 1000) (i j : Fin 14) :
    res_main_v71 V (ix3 n i j) = ((placeR (b n 0) (b n 2) j.val : ℝ) : EReal) := by
  unfold res_main_v71
  clean_types
  pointwise [res_main_v51]
  rw [ref_pairX V b hb, word_half, word_49, ← EReal.coe_one, ← EReal.coe_add, ← EReal.coe_mul, ← EReal.coe_mul]
  rfl

end Cert.RoiPool

end
-- ==== Proof.RefTerm.lean ====
/- One of the four terms of a sample of the reference: a feature read at clipped indices, masked where the indices leave the
   feature map, times its weight. -/
module

public import proofs.«01_k».proof.Proof.RefPlaces

@[expose] public section

set_option maxRecDepth 16384

namespace Cert.RoiPool

open Idealize.ShloMosaic Idealize.SL.Sem Cert.ReferenceIdeal Cert.ReferenceIdeal.Gen Cert.ReferenceIdeal.Value

/-- The integer index of a floored place: clipped to the feature map. -/
noncomputable def clipped (p : FVec Ideal S1000x14x14 .f32) : IVec S1000x14x14 32 :=
  fptosi 32 (minimumf (broadcastInDim S1000x14x14 ![] bcast_S_S1000x14x14 (sitofp .f32 (constantI S_ 32 49#32)))
    (maximumf (broadcastInDim S1000x14x14 ![] bcast_S_S1000x14x14 (sitofp .f32 (constantI S_ 32 0#32))) p))

/-- An index with the negative ones counted from the end, as an index vector's column. -/
noncomputable def wrapped (v : IVec S1000x14x14 32) : IVec S1000x14x14x1 32 :=
  broadcastInDim S1000x14x14x1 ![0, 1, 2] bcast_S1000x14x14_S1000x14x14x1_0_1_2
    (select (cmpi .slt v (broadcastInDim S1000x14x14 ![] bcast_S_S1000x14x14 (constantI S_ 32 0#32)))
      (addi v (broadcastInDim S1000x14x14 ![] bcast_S_S1000x14x14 (constantI S_ 32 50#32))) v)

/-- The image index of each box, wrapped and spread over the box's samples. -/
noncomputable def image (v : IVec S1000x1x1 32) : IVec S1000x14x14x1 32 :=
  broadcastInDim S1000x14x14x1 ![0, 1, 2] bcast_S1000x14x14_S1000x14x14x1_0_1_2
    (broadcastInDim S1000x14x14 ![0, 1, 2] bcast_S1000x1x1_S1000x14x14_0_1_2
      (select (cmpi .slt v (broadcastInDim S1000x1x1 ![] bcast_S_S1000x1x1 (constantI S_ 32 0#32)))
        (addi v (broadcastInDim S1000x1x1 ![] bcast_S_S1000x1x1 (constantI S_ 32 1#32))) v))

/-- The index vectors of the feature to read. -/
noncomputable def indices (v : IVec S1000x1x1 32) (p q : FVec Ideal S1000x14x14 .f32) : IVec S1000x14x14x3 32 :=
  concatenate S1000x14x14x3 3 [⟨S1000x14x14x1, image v⟩, ⟨S1000x14x14x1, wrapped (clipped p)⟩,
    ⟨S1000x14x14x1, wrapped (clipped q)⟩] concatenates_S1000x14x14x1_S1000x14x14x1_S1000x14x14x1_S1000x14x14x3_d3

/-- One where both floored places lie inside the feature map. -/
noncomputable def inside (p q : FVec Ideal S1000x14x14 .f32) : IVec S1000x14x14 1 :=
  andi (andi (andi (cmpf .oge p (broadcastInDim S1000x14x14 ![] bcast_S_S1000x14x14 (constant S_ .f32 0x00000000#32)))
      (cmpf .ole p (broadcastInDim S1000x14x14 ![] bcast_S_S1000x14x14 (constant S_ .f32 0x42440000#32))))
    (cmpf .oge q (broadcastInDim S1000x14x14 ![] bcast_S_S1000x14x14 (constant S_ .f32 0x00000000#32))))
    (cmpf .ole q (broadcastInDim S1000x14x14 ![] bcast_S_S1000x14x14 (constant S_ .f32 0x42440000#32)))

/-- The term of a sample at floored places `p` and `q` with weight `w`. -/
noncomputable def term (x : FVec Ideal S1x256x50x50 .f32) (v : IVec S1000x1x1 32) (p q w : FVec Ideal S1000x14x14 .f32) :
    FVec Ideal S1000x14x14x256 .f32 :=
  mulf (mulf (Host.gather gather_S1x256x50x50_S1000x14x14x3_S1000x14x14x256_3_023_n_n_023_3_125611 x (indices v p q))
      (broadcastInDim S1000x14x14x256 ![0, 1, 2, 3] bcast_S1000x14x14x1_S1000x14x14x256_0_1_2_3
        (uitofp .f32 (broadcastInDim S1000x14x14x1 ![0, 1, 2] bcast_S1000x14x14_S1000x14x14x1_0_1_2 (inside p q)))))
    (broadcastInDim S1000x14x14x256 ![0, 1, 2, 3] bcast_S1000x14x14x1_S1000x14x14x256_0_1_2_3
      (broadcastInDim S1000x14x14x1 ![0, 1, 2] bcast_S1000x14x14_S1000x14x14x1_0_1_2 w))

/-- The reference's samples are the sum of its four terms. -/
theorem ref_samples (V : Valuation τ sig (Elt Ideal)) :
    res_main_v270 V
      = addf (addf (addf
          (term (V (Proc.devRef .tc main_arg0)) (res_main_v95 V) (res_main_v72 V) (res_main_v73 V)
            (mulf (res_main_v76 V) (res_main_v79 V)))
          (term (V (Proc.devRef .tc main_arg0)) (res_main_v142 V) (res_main_v72 V) (res_main_v126 V)
            (mulf (res_main_v76 V) (res_main_v77 V))))
          (term (V (Proc.devRef .tc main_arg0)) (res_main_v190 V) (res_main_v174 V) (res_main_v73 V)
            (mulf (res_main_v74 V) (res_main_v79 V))))
          (term (V (Proc.devRef .tc main_arg0)) (res_main_v240 V) (res_main_v222 V) (res_main_v224 V)
            (mulf (res_main_v74 V) (res_main_v77 V))) := rfl

/-- How the program gathers samples. -/
abbrev sampleDims := gather_S1x256x50x50_S1000x14x14x3_S1000x14x14x256_3_023_n_n_023_3_125611

/-- Where the index vector of a sample keeps its row and column indices. -/
theorem vector_place (n : Fin 1000) (i j : Fin 14) (ch : Fin 256) (k : Fin 3) (h : k.val < sampleDims.startIndexMap.length) :
    sampleDims.siIdx (ix4 n i j ch) ⟨k.val, h⟩ = ix4 n i j k := by
  funext a
  fin_cases a <;> rfl

/-- Reading the features at index vectors: the channel is kept, and the other indices are read signed and clamped. -/
theorem gather_apply (x : FVec Ideal S1x256x50x50 .f32) (idx : IVec S1000x14x14x3 32) (n : Fin 1000) (i j : Fin 14)
    (ch : Fin 256) :
    Host.gather sampleDims x idx (ix4 n i j ch)
      = x (ix4 0 ch ⟨min (idx (ix4 n i j 1)).toInt.toNat 49, by omega⟩ ⟨min (idx (ix4 n i j 2)).toInt.toNat 49, by omega⟩) := by
  unfold Host.gather
  refine congrArg x (funext fun a => ?_)
  fin_cases a
  · exact Subsingleton.elim (α := Fin 1) _ _
  · exact Fin.ext (Nat.zero_add _)
  · exact Fin.ext (congrArg (fun z => min (idx z).toInt.toNat 49) (vector_place n i j ch 1 (by decide)))
  · exact Fin.ext (congrArg (fun z => min (idx z).toInt.toNat 49) (vector_place n i j ch 2 (by decide)))

end Cert.RoiPool

end
-- ==== Proof.Floors.lean ====
/- The equation between the two ways to interpolate. A place between `-1` and `1` and its floor give the same weights to the
   corner features as the place's distances from `0` and `1`. -/
module

public import proofs.«01_k».proof.Proof.Reals

@[expose] public section

namespace Cert.RoiPool

/-- The corner feature at row `P` and column `Q`, and zero elsewhere. -/
noncomputable def pick (f : Fin 4 → ℝ) (P Q : ℤ) : ℝ :=
  if P = 0 then (if Q = 0 then f 0 else if Q = 1 then f 1 else 0)
  else if P = 1 then (if Q = 0 then f 2 else if Q = 1 then f 3 else 0) else 0

/-- Nothing is picked below the map. -/
theorem pick_outside (f : Fin 4 → ℝ) (P Q : ℤ) (h : P < 0 ∨ Q < 0) : pick f P Q = 0 := by
  unfold pick
  split_ifs <;> first | rfl | omega

/-- A box within sixteen of the origin is sampled at places between `-1` and `1`. -/
theorem place_bounds (lo hi : ℝ) (hlo : |lo| ≤ 16) (hhi : |hi| ≤ 16) (k : ℕ) (hk : k ≤ 13) :
    -1 ≤ placeR lo hi k ∧ placeR lo hi k ≤ 1 := by
  obtain ⟨l0, l1⟩ := abs_le.1 hlo
  obtain ⟨h0, h1⟩ := abs_le.1 hhi
  have k0 : (0 : ℝ) ≤ k := k.cast_nonneg
  have k1 : (k : ℝ) ≤ 13 := by exact_mod_cast hk
  have e : placeR lo hi k = lo / 16 * (1 - k / 13) + hi / 16 * (k / 13) := by
    unfold placeR scaleR shiftR gridR
    ring
  have t0 : (0 : ℝ) ≤ k / 13 := by positivity
  have t1 : (k : ℝ) / 13 ≤ 1 := by linarith
  rw [e]
  constructor <;> nlinarith

/-- The floor of a place between `-1` and `1`, and the weights of the features at `0` and at `1`. -/
theorem floor_cases (g : ℝ) (h0 : -1 ≤ g) (h1 : g ≤ 1) :
    (⌊g⌋ = -1 ∧ near0 g = 1 + g ∧ near1 g = 0) ∨ (⌊g⌋ = 0 ∧ near0 g = 1 - g ∧ near1 g = g)
      ∨ (⌊g⌋ = 1 ∧ g = 1 ∧ near0 g = 0 ∧ near1 g = 1) := by
  unfold near0 near1
  rcases lt_or_ge g 0 with hn | hp
  · left
    refine ⟨Int.floor_eq_iff.2 ⟨by push_cast; linarith, by push_cast; linarith⟩, ?_, max_eq_right hn.le⟩
    rw [abs_of_neg hn]
    ring
  · rcases lt_or_eq_of_le h1 with hl | he
    · right; left
      exact ⟨Int.floor_eq_iff.2 ⟨by push_cast; linarith, by push_cast; linarith⟩, by rw [abs_of_nonneg hp], max_eq_left hp⟩
    · right; right
      subst he
      exact ⟨Int.floor_one, rfl, by norm_num, by norm_num⟩

/-- The floor of a place between `-1` and `1` lies between them too, and at `1` the place equals its floor. -/
theorem floor_bounds (g : ℝ) (h0 : -1 ≤ g) (h1 : g ≤ 1) : -1 ≤ ⌊g⌋ ∧ ⌊g⌋ ≤ 1 ∧ (⌊g⌋ = 1 → g - (⌊g⌋ : ℝ) = 0) := by
  rcases floor_cases g h0 h1 with ⟨h, _⟩ | ⟨h, _⟩ | ⟨h, e, _⟩
  · exact ⟨by omega, by omega, fun h' => by omega⟩
  · exact ⟨by omega, by omega, fun h' => by omega⟩
  · exact ⟨by omega, by omega, fun _ => by rw [h, e]; norm_num⟩

/-- The four features around a place, each with its share, add up to the sample. -/
theorem sample_eq (f : Fin 4 → ℝ) (gy gx : ℝ) (y0 : -1 ≤ gy) (y1 : gy ≤ 1) (x0 : -1 ≤ gx) (x1 : gx ≤ 1) :
    pick f ⌊gy⌋ ⌊gx⌋ * ((1 - (gy - ⌊gy⌋)) * (1 - (gx - ⌊gx⌋))) + pick f ⌊gy⌋ (⌊gx⌋ + 1) * ((1 - (gy - ⌊gy⌋)) * (gx - ⌊gx⌋))
        + pick f (⌊gy⌋ + 1) ⌊gx⌋ * ((gy - ⌊gy⌋) * (1 - (gx - ⌊gx⌋))) + pick f (⌊gy⌋ + 1) (⌊gx⌋ + 1) * ((gy - ⌊gy⌋) * (gx - ⌊gx⌋))
      = sampleR f gy gx := by
  unfold sampleR
  rcases floor_cases gy y0 y1 with ⟨h, n0, n1⟩ | ⟨h, n0, n1⟩ | ⟨h, e, n0, n1⟩ <;>
  rcases floor_cases gx x0 x1 with ⟨k, m0, m1⟩ | ⟨k, m0, m1⟩ | ⟨k, d, m0, m1⟩ <;>
  · rw [h, k, n0, n1, m0, m1]
    simp [pick, *, -mul_eq_mul_left_iff, -mul_eq_mul_right_iff]
    try ring

end Cert.RoiPool

end
-- ==== Proof.RefCorner.lean ====
/- The terms of a sample of the reference, at floored places near the origin of the feature map. -/
module

public import proofs.«01_k».proof.Proof.RefTerm
public import proofs.«01_k».proof.Proof.Floors

@[expose] public section

set_option maxRecDepth 16384

namespace Cert.RoiPool

open Idealize.ShloMosaic Idealize.SL.Sem Cert.ReferenceIdeal Cert.ReferenceIdeal.Gen Cert.ReferenceIdeal.Value

/-- A floored place from `-1` to `2` becomes its index, or `0` below the map. -/
theorem clipped_apply (p : FVec Ideal S1000x14x14 .f32) (n : Fin 1000) (i j : Fin 14) (P : ℤ) (h1 : P ≤ 2)
    (hp : p (ix3 n i j) = ((P : ℝ) : EReal)) : clipped p (ix3 n i j) = BitVec.ofInt 32 (max 0 P) := by
  have hr : min (49 : ℝ) (max (0 : ℝ) P) = ((max 0 P : ℤ) : ℝ) := by
    have h : ((max 0 P : ℤ) : ℝ) = max (0 : ℝ) P := by push_cast; rfl
    rw [← h, min_eq_right]
    exact_mod_cast (show max 0 P ≤ 49 by omega)
  pointwise [clipped]
  rw [hp, show FloatOps.sitofp (F := Ideal) .f32 49#32 = ((49 : ℝ) : EReal) from
      congrArg (fun r : ℝ => (r : EReal)) (by rw [show (49#32).toInt = 49 from rfl]; norm_num), show FloatOps.sitofp (F := Ideal) .f32 0#32 = ((0 : ℝ) : EReal) from
      congrArg (fun r : ℝ => (r : EReal)) (by norm_num),
    max_real, min_real, hr]
  show BitVec.ofInt 32 (max _ (min _ (if (0 : ℝ) ≤ _ then ⌊_⌋ else ⌈_⌉))) = _
  rw [Int.floor_intCast, Int.ceil_intCast, ite_self]
  congr 1
  norm_num
  omega

/-- Such an index is not negative: it is not counted from the end. -/
theorem wrapped_apply (v : IVec S1000x14x14 32) (n : Fin 1000) (i j : Fin 14) (P : ℤ) (h0 : 0 ≤ P) (h1 : P ≤ 2)
    (hv : v (ix3 n i j) = BitVec.ofInt 32 P) : wrapped v (ix4 n i j 0) = BitVec.ofInt 32 P := by
  pointwise [wrapped]
  rw [hv]
  interval_cases P <;> rfl

/-- The row component of an index vector. -/
theorem indices_row (v : IVec S1000x1x1 32) (p q : FVec Ideal S1000x14x14 .f32) (n : Fin 1000) (i j : Fin 14) :
    indices v p q (ix4 n i j 1) = wrapped (clipped p) (ix4 n i j 0) := by
  pointwise [indices]

/-- The column component of an index vector. -/
theorem indices_column (v : IVec S1000x1x1 32) (p q : FVec Ideal S1000x14x14 .f32) (n : Fin 1000) (i j : Fin 14) :
    indices v p q (ix4 n i j 2) = wrapped (clipped q) (ix4 n i j 0) := by
  pointwise [indices]

/-- The mask: one where neither floored place is below the map. -/
theorem inside_apply (p q : FVec Ideal S1000x14x14 .f32) (n : Fin 1000) (i j : Fin 14) (P Q : ℤ) (h1 : P ≤ 2) (k1 : Q ≤ 2)
    (hp : p (ix3 n i j) = ((P : ℝ) : EReal)) (hq : q (ix3 n i j) = ((Q : ℝ) : EReal)) :
    inside p q (ix3 n i j) = BitVec.ofBool (decide (0 ≤ P ∧ 0 ≤ Q)) := by
  have low (R : ℤ) : decide ((0 : EReal) ≤ ((R : ℝ) : EReal)) = decide (0 ≤ R) := by
    rw [← EReal.coe_zero]
    exact decide_eq_decide.2 (EReal.coe_le_coe_iff.trans Int.cast_nonneg_iff)
  have high (R : ℤ) (h : R ≤ 2) : decide (((R : ℝ) : EReal) ≤ ((49 : ℝ) : EReal)) = true := by
    refine decide_eq_true (EReal.coe_le_coe_iff.2 ?_)
    exact_mod_cast (show R ≤ 49 by omega)
  pointwise [inside]
  rw [hp, hq, word_49, low, low, high P h1, high Q k1, Bool.decide_and]
  cases decide (0 ≤ P) <;> cases decide (0 ≤ Q) <;> rfl

/-- An index from `0` to `2` reads itself. -/
theorem index_read (P : ℤ) (h0 : 0 ≤ P) (h1 : P ≤ 2) : min (BitVec.ofInt 32 P).toInt.toNat 49 = P.toNat := by
  interval_cases P <;> rfl

/-- The feature a term reads where neither floored place is below the map. -/
theorem feature_apply (x : FVec Ideal S1x256x50x50 .f32) (v : IVec S1000x1x1 32) (p q : FVec Ideal S1000x14x14 .f32)
    (n : Fin 1000) (i j : Fin 14) (ch : Fin 256) (P Q : ℤ) (h0 : 0 ≤ P) (h1 : P ≤ 2) (k0 : 0 ≤ Q) (k1 : Q ≤ 2)
    (hp : p (ix3 n i j) = ((P : ℝ) : EReal)) (hq : q (ix3 n i j) = ((Q : ℝ) : EReal)) :
    Host.gather sampleDims x (indices v p q) (ix4 n i j ch)
      = x (ix4 0 ch ⟨P.toNat, by omega⟩ ⟨Q.toNat, by omega⟩) := by
  have row : indices v p q (ix4 n i j 1) = BitVec.ofInt 32 P := by
    rw [indices_row, wrapped_apply _ n i j P h0 h1]
    rw [clipped_apply p n i j P h1 hp, max_eq_right h0]
  have column : indices v p q (ix4 n i j 2) = BitVec.ofInt 32 Q := by
    rw [indices_column, wrapped_apply _ n i j Q k0 k1]
    rw [clipped_apply q n i j Q k1 hq, max_eq_right k0]
  rw [gather_apply]
  refine congrArg₂ (fun a b => x (ix4 0 ch a b)) (Fin.ext ?_) (Fin.ext ?_)
  · exact (congrArg (fun z : BitVec 32 => min z.toInt.toNat 49) row).trans (index_read P h0 h1)
  · exact (congrArg (fun z : BitVec 32 => min z.toInt.toNat 49) column).trans (index_read Q k0 k1)

/-- A term is its feature, or nothing below the map, times its weight. -/
theorem term_apply (x : FVec Ideal S1x256x50x50 .f32) (v : IVec S1000x1x1 32) (p q w : FVec Ideal S1000x14x14 .f32)
    (n : Fin 1000) (i j : Fin 14) (ch : Fin 256) :
    term x v p q w (ix4 n i j ch)
      = Host.gather sampleDims x (indices v p q) (ix4 n i j ch) * (((inside p q (ix3 n i j)).toNat : ℝ) : EReal)
        * w (ix3 n i j) := by
  pointwise [term]
  rfl

/-- The corner features, by row and column. -/
theorem corner_feature (x : FVec Ideal S1x256x50x50 .f32) (ch : Fin 256) (f : Fin 4 → ℝ)
    (hf : ∀ k : Fin 4, x (ix4 0 ch ⟨k.val / 2, by omega⟩ ⟨k.val % 2, by omega⟩) = ((f k : ℝ) : EReal)) (a b : Fin 2) :
    x (ix4 0 ch ⟨(a.val : ℤ).toNat, by omega⟩ ⟨(b.val : ℤ).toNat, by omega⟩) = ((pick f a.val b.val : ℝ) : EReal) := by
  fin_cases a <;> fin_cases b
  · exact hf 0
  · exact hf 1
  · exact hf 2
  · exact hf 3

/-- A term is a corner feature times its weight, or zero where the weight vanishes or a place is below the map. -/
theorem term_value (x : FVec Ideal S1x256x50x50 .f32) (v : IVec S1000x1x1 32) (p q w : FVec Ideal S1000x14x14 .f32)
    (n : Fin 1000) (i j : Fin 14) (ch : Fin 256) (f : Fin 4 → ℝ)
    (hf : ∀ k : Fin 4, x (ix4 0 ch ⟨k.val / 2, by omega⟩ ⟨k.val % 2, by omega⟩) = ((f k : ℝ) : EReal))
    (P Q : ℤ) (W : ℝ) (h0 : -1 ≤ P) (h1 : P ≤ 2) (k0 : -1 ≤ Q) (k1 : Q ≤ 2)
    (hp : p (ix3 n i j) = ((P : ℝ) : EReal)) (hq : q (ix3 n i j) = ((Q : ℝ) : EReal))
    (hw : w (ix3 n i j) = ((W : ℝ) : EReal)) (hW : P = 2 ∨ Q = 2 → W = 0) :
    term x v p q w (ix4 n i j ch) = ((pick f P Q * W : ℝ) : EReal) := by
  rw [term_apply, inside_apply p q n i j P Q h1 k1 hp hq, hw]
  by_cases hin : 0 ≤ P ∧ 0 ≤ Q
  · rw [decide_eq_true hin, feature_apply x v p q n i j ch P Q hin.1 h1 hin.2 k1 hp hq]
    by_cases hz : P = 2 ∨ Q = 2
    · rw [hW hz, mul_zero, EReal.coe_zero, mul_zero]
    · obtain ⟨a, b, hP, hQ⟩ : ∃ a b : Fin 2, P = a.val ∧ Q = b.val :=
        ⟨⟨P.toNat, by omega⟩, ⟨Q.toNat, by omega⟩, by simp; omega, by simp; omega⟩
      subst hP hQ
      rw [corner_feature x ch f hf a b, show ((BitVec.ofBool true).toNat : ℝ) = 1 from Nat.cast_one, EReal.coe_one, mul_one, EReal.coe_mul]
  · rw [decide_eq_false hin, show ((BitVec.ofBool false).toNat : ℝ) = 0 from Nat.cast_zero, EReal.coe_zero, mul_zero, zero_mul,
      pick_outside f P Q (by omega), zero_mul, EReal.coe_zero]

end Cert.RoiPool

end
-- ==== Proof.RefSamples.lean ====
/- What the reference samples: at every position of a box's grid, the interpolation of the four corner features. -/
module

public import proofs.«01_k».proof.Proof.RefCorner

@[expose] public section

set_option maxRecDepth 16384

namespace Cert.RoiPool

open Idealize.ShloMosaic Idealize.SL.Sem Cert.ReferenceIdeal Cert.ReferenceIdeal.Gen Cert.ReferenceIdeal.Value

variable (V : Valuation τ sig (Elt Ideal)) (n : Fin 1000) (i j : Fin 14) (gy gx : ℝ)

section Rows

variable (hy : res_main_v63 V (ix3 n i j) = ((gy : ℝ) : EReal))
include hy

/-- The floored place along the rows. -/
theorem ref_floorY : res_main_v72 V (ix3 n i j) = (((⌊gy⌋ : ℤ) : ℝ) : EReal) := by
  unfold res_main_v72
  clean_types
  pointwise
  rw [hy]
  rfl

/-- The floored place along the rows, and one more. -/
theorem ref_nextY : res_main_v174 V (ix3 n i j) = (((⌊gy⌋ + 1 : ℤ) : ℝ) : EReal) := by
  unfold res_main_v174
  clean_types
  pointwise
  rw [ref_floorY V n i j gy hy, Int.cast_add, Int.cast_one, EReal.coe_add, EReal.coe_one]

/-- The weight of the next row. -/
theorem ref_weightY : res_main_v74 V (ix3 n i j) = ((gy - ⌊gy⌋ : ℝ) : EReal) := by
  unfold res_main_v74
  clean_types
  pointwise
  rw [ref_floorY V n i j gy hy, hy, EReal.coe_sub]

/-- The weight of the floored row. -/
theorem ref_restY : res_main_v76 V (ix3 n i j) = ((1 - (gy - ⌊gy⌋) : ℝ) : EReal) := by
  unfold res_main_v76
  clean_types
  pointwise
  rw [ref_weightY V n i j gy hy, EReal.coe_sub 1, EReal.coe_one]

end Rows

section Columns

variable (hx : res_main_v71 V (ix3 n i j) = ((gx : ℝ) : EReal))
include hx

/-- The floored place along the columns. -/
theorem ref_floorX : res_main_v73 V (ix3 n i j) = (((⌊gx⌋ : ℤ) : ℝ) : EReal) := by
  unfold res_main_v73
  clean_types
  pointwise
  rw [hx]
  rfl

/-- The floored place along the columns, and one more. -/
theorem ref_nextX : res_main_v126 V (ix3 n i j) = (((⌊gx⌋ + 1 : ℤ) : ℝ) : EReal) := by
  unfold res_main_v126
  clean_types
  pointwise
  rw [ref_floorX V n i j gx hx, Int.cast_add, Int.cast_one, EReal.coe_add, EReal.coe_one]

/-- The weight of the next column. -/
theorem ref_weightX : res_main_v77 V (ix3 n i j) = ((gx - ⌊gx⌋ : ℝ) : EReal) := by
  unfold res_main_v77
  clean_types
  pointwise
  rw [ref_floorX V n i j gx hx, hx, EReal.coe_sub]

/-- The weight of the floored column. -/
theorem ref_restX : res_main_v79 V (ix3 n i j) = ((1 - (gx - ⌊gx⌋) : ℝ) : EReal) := by
  unfold res_main_v79
  clean_types
  pointwise
  rw [ref_weightX V n i j gx hx, EReal.coe_sub 1, EReal.coe_one]

end Columns

/-- Two weights multiplied. -/
theorem weight_apply (u w : FVec Ideal S1000x14x14 .f32) (a c : ℝ) (hu : u (ix3 n i j) = (a : EReal))
    (hw : w (ix3 n i j) = (c : EReal)) : mulf u w (ix3 n i j) = ((a * c : ℝ) : EReal) := by
  pointwise
  rw [hu, hw, EReal.coe_mul]

/-- The reference's sample at one position of a box's grid, for one channel. -/
theorem ref_sample (ch : Fin 256) (f : Fin 4 → ℝ)
    (hf : ∀ k : Fin 4, V (Proc.devRef .tc main_arg0) (ix4 0 ch ⟨k.val / 2, by omega⟩ ⟨k.val % 2, by omega⟩) = ((f k : ℝ) : EReal))
    (hy : res_main_v63 V (ix3 n i j) = ((gy : ℝ) : EReal)) (hx : res_main_v71 V (ix3 n i j) = ((gx : ℝ) : EReal))
    (y0 : -1 ≤ gy) (y1 : gy ≤ 1) (x0 : -1 ≤ gx) (x1 : gx ≤ 1) :
    res_main_v270 V (ix4 n i j ch) = ((sampleR f gy gx : ℝ) : EReal) := by
  obtain ⟨p0, p1, pz⟩ := floor_bounds gy y0 y1
  obtain ⟨q0, q1, qz⟩ := floor_bounds gx x0 x1
  have fy := ref_floorY V n i j gy hy
  have sy := ref_nextY V n i j gy hy
  have wy := ref_weightY V n i j gy hy
  have ry := ref_restY V n i j gy hy
  have fx := ref_floorX V n i j gx hx
  have sx := ref_nextX V n i j gx hx
  have wx := ref_weightX V n i j gx hx
  have rx := ref_restX V n i j gx hx
  have t₁ := term_value (V (Proc.devRef .tc main_arg0)) (res_main_v95 V) _ _ _ n i j ch f hf _ _ _ (by omega) (by omega)
    (by omega) (by omega) fy fx (weight_apply n i j _ _ _ _ ry rx) (fun h => by omega)
  have t₂ := term_value (V (Proc.devRef .tc main_arg0)) (res_main_v142 V) _ _ _ n i j ch f hf _ _ _ (by omega) (by omega)
    (by omega) (by omega) fy sx (weight_apply n i j _ _ _ _ ry wx) (fun h => by rw [qz (by omega), mul_zero])
  have t₃ := term_value (V (Proc.devRef .tc main_arg0)) (res_main_v190 V) _ _ _ n i j ch f hf _ _ _ (by omega) (by omega)
    (by omega) (by omega) sy fx (weight_apply n i j _ _ _ _ wy rx) (fun h => by rw [pz (by omega), zero_mul])
  have t₄ := term_value (V (Proc.devRef .tc main_arg0)) (res_main_v240 V) _ _ _ n i j ch f hf _ _ _ (by omega) (by omega)
    (by omega) (by omega) sy sx (weight_apply n i j _ _ _ _ wy wx) (fun h => by
      rcases h with h | h
      · rw [pz (by omega), zero_mul]
      · rw [qz (by omega), mul_zero])
  rw [ref_samples, ← sample_eq f gy gx y0 y1 x0 x1, EReal.coe_add, EReal.coe_add, EReal.coe_add, ← t₁, ← t₂, ← t₃, ← t₄]
  rfl

end Cert.RoiPool

end
-- ==== Proof.RefPool.lean ====
/- What the reference returns: for every box and channel, the largest samples of the 2 by 2 windows of its grid. -/
module

public import proofs.«01_k».proof.Proof.RefSamples

@[expose] public section

set_option maxRecDepth 16384

namespace Cert.RoiPool

open Idealize.ShloMosaic Idealize.SL.Sem Cert.ReferenceIdeal Cert.ReferenceIdeal.Gen Cert.ReferenceIdeal.Value

/-- The shape of the pooling window. -/
abbrev windowShape : Shape := ⟨4, ![1, 1, 2, 2]⟩

/-- The positions of the pooling window, counted along its rows. -/
theorem window_position (k : Fin 4) (h : k.val < windowShape.numel) :
    windowShape.rowMajor.symm ⟨k.val, h⟩ = ix4 0 0 ⟨k.val / 2, by omega⟩ ⟨k.val % 2, by omega⟩ := by
  rw [Equiv.symm_apply_eq]
  fin_cases k <;> rfl

/-- The pooling window's largest value: a fold over the window's four positions. -/
theorem pool_apply (x : FVec Ideal S1000x256x14x14 .f32) (z : FVec Ideal S_ .f32)
    (h : S1000x256x14x14.ReduceWindows ![1, 1, 2, 2] ![1, 1, 2, 2] ![0, 0, 0, 0] ![0, 0, 0, 0] S1000x256x7x7)
    (hu : 0 < S_.numel) (n : Fin 1000) (ch : Fin 256) (i j : Fin 7) :
    Host.reduceWindow (t := S1000x256x7x7) FloatOps.maximumf ![1, 1, 2, 2] ![1, 1, 2, 2] ![0, 0, 0, 0] ![0, 0, 0, 0] x z h hu
        (ix4 n ch i j)
      = (List.finRange 4).foldl (fun r k => max r
          (x (ix4 n ch ⟨2 * i.val + k.val / 2, by omega⟩ ⟨2 * j.val + k.val % 2, by omega⟩))) (z ix0) := by
  have hz : z (Shape.Idx.first hu) = z ix0 := congrArg z (funext fun a => a.elim0)
  unfold Host.reduceWindow
  rw [hz]
  refine List.foldl_ext _ _ _ fun r k _ => congrArg (max r) ?_
  have hp (a : Fin 4) : (ix4 n ch i j a).val * (![1, 1, 2, 2] : Fin 4 → Nat) a + (windowShape.rowMajor.symm k a).val - 0
      = (ix4 n ch (⟨2 * i.val + k.val / 2, by have h4 : k.val < 4 := k.isLt; omega⟩ : Fin 14)
          (⟨2 * j.val + k.val % 2, by omega⟩ : Fin 14) a).val := by
    rw [show windowShape.rowMajor.symm k = _ from window_position k k.isLt]
    fin_cases a
    · show n.val * 1 + 0 - 0 = n.val
      omega
    · show ch.val * 1 + 0 - 0 = ch.val
      omega
    · show i.val * 2 + k.val / 2 - 0 = 2 * i.val + k.val / 2
      omega
    · show j.val * 2 + k.val % 2 - 0 = 2 * j.val + k.val % 2
      omega
  rw [dif_pos]
  · refine congrArg x (funext fun a => Fin.ext (Eq.trans ?_ (hp a)))
    fin_cases a <;> rfl
  · intro a
    have hz (a : Fin 4) : (![0, 0, 0, 0] : Fin 4 → Nat) a = 0 := by fin_cases a <;> rfl
    refine ⟨(hz a).le.trans (Nat.zero_le _), lt_of_eq_of_lt (Eq.trans ?_ (hp a)) (Fin.isLt _)⟩
    fin_cases a <;> rfl

/-- The reference's result: the pooled values. -/
theorem ref_result (V : Valuation τ sig (Elt Ideal)) (f : Fin 256 → Fin 4 → ℝ) (b : Fin 1000 → Fin 4 → ℝ)
    (hf : ∀ (ch : Fin 256) (k : Fin 4),
      V (Proc.devRef .tc main_arg0) (ix4 0 ch ⟨k.val / 2, by omega⟩ ⟨k.val % 2, by omega⟩) = ((f ch k : ℝ) : EReal))
    (hb : ∀ (n : Fin 1000) (k : Fin 4), V (Proc.devRef .tc main_arg1) (ix2 n k.succ) = ((b n k : ℝ) : EReal))
    (near : ∀ (n : Fin 1000) (k : Fin 4), |b n k| ≤ 16)
    (h : S1000x256x14x14.ReduceWindows ![1, 1, 2, 2] ![1, 1, 2, 2] ![0, 0, 0, 0] ![0, 0, 0, 0] S1000x256x7x7)
    (hu : 0 < S_.numel) :
    Host.reduceWindow (t := S1000x256x7x7) FloatOps.maximumf ![1, 1, 2, 2] ![1, 1, 2, 2] ![0, 0, 0, 0] ![0, 0, 0, 0]
        (transpose S1000x256x14x14 [0, 3, 1, 2] (res_main_v270 V) transposes_S1000x14x14x256_S1000x256x14x14_0_3_1_2)
        (broadcastInDim S_ ![] bcast_S_S_ (constant (F := Ideal) S_ .f32 0xFF800000#32)) h hu
      = fun y => ((pooledR (f (y 1)) (b (y 0)) (y 2).val (y 3).val : ℝ) : EReal) := by
  funext y
  idx_vars y
  rw [pool_apply]
  have hs (p q : Fin 14) : transpose S1000x256x14x14 [0, 3, 1, 2] (res_main_v270 V)
      transposes_S1000x14x14x256_S1000x256x14x14_0_3_1_2 (ix4 y0 y1 p q)
      = ((sampleR (f y1) (placeR (b y0 1) (b y0 3) p.val) (placeR (b y0 0) (b y0 2) q.val) : ℝ) : EReal) := by
    obtain ⟨l₀, l₁⟩ := place_bounds _ _ (near y0 1) (near y0 3) p.val (by omega)
    obtain ⟨r₀, r₁⟩ := place_bounds _ _ (near y0 0) (near y0 2) q.val (by omega)
    pointwise
    exact ref_sample V y0 p q _ _ y1 (f y1) (hf y1) (ref_placeY V b hb y0 p q) (ref_placeX V b hb y0 p q) l₀ l₁ r₀ r₁
  simp only [hs]
  have hz : broadcastInDim S_ ![] bcast_S_S_ (constant (F := Ideal) S_ .f32 0xFF800000#32) ix0 = ⊥ := word_bot
  rw [hz]
  show max (max (max (max ⊥ _) _) _) _ = _
  rw [bot_sup_eq, max_real, max_real, max_real]
  rfl

end Cert.RoiPool

end
-- ==== Proof.Near.lean ====
/- What the precondition says: the four corner features of every channel are real numbers, and the ends of every box are real
   numbers within sixteen of the origin. -/
module

public import proofs.«01_k».proof.Pre_boxes_near_origin
public import proofs.«01_k».proof.Proof.Reals
public import Idealize.ShloMosaic.Lib.ReduceAll
public import Idealize.ShloMosaic.Lib.Pointwise

@[expose] public section

set_option maxRecDepth 16384

namespace Cert.RoiPool

open Idealize.ShloMosaic Cert.Pre_boxes_near_origin

/-- The shapes of the precondition fit together. -/
theorem near_facts : Cert.Pre_boxes_near_origin.Facts where
  slices_S1x256x50x50_S1x256x2x2_0_0_0_0 := by decide
  bcast_S_S1x256x2x2 := by decide
  reducesTo_S1x256x2x2_S_d0_1_2_3 := by decide
  h_S_ := by decide
  slices_S1000x5_S1000x4_0_1 := by decide
  bcast_S_S1000x4 := by decide
  reducesTo_S1000x4_S_d0_1 := by decide

/-- A number whose absolute value is below infinity is real. -/
theorem real_of_abs_lt (x : EReal) (h : max x (-x) < ⊤) : ∃ r : ℝ, x = (r : EReal) := by
  induction x with
  | bot => simp at h
  | coe r => exact ⟨r, rfl⟩
  | top => simp at h

variable [Cert.Pre_boxes_near_origin.Facts] (x : FVec Ideal S1x256x50x50 .f32) (z : FVec Ideal S1000x5 .f32)
  (h : fn (F := Ideal) x z = fun _ => 1#1)
include h

/-- Under the precondition a corner feature is a real number. -/
theorem corner_is_real (ch : Fin 256) (k : Fin 4) :
    ∃ r : ℝ, x (ix4 0 ch ⟨k.val / 2, by omega⟩ ⟨k.val % 2, by omega⟩) = (r : EReal) := by
  have e := congrFun h ix0
  unfold fn at e
  have e₁ := (IntOp.andi_eq_one.1 e).1
  haveI : Subsingleton S_.Idx := ⟨fun a b => funext fun i => i.elim0⟩
  have t := Host.reduce_andi_all _ _ _ _ ix0 e₁ (ix4 0 ch ⟨k.val / 2, by omega⟩ ⟨k.val % 2, by omega⟩)
  pointwise at t
  exact real_of_abs_lt _ (word_top ▸ of_decide_eq_true ((BitVec.ofBool_eq_iff_eq (b' := true)).1 t))

/-- Under the precondition the end of a box is a real number within sixteen of the origin. -/
theorem end_is_near (n : Fin 1000) (k : Fin 4) : ∃ r : ℝ, z (ix2 n k.succ) = (r : EReal) ∧ |r| ≤ 16 := by
  have e := congrFun h ix0
  unfold fn at e
  have e₁ := (IntOp.andi_eq_one.1 e).2
  haveI : Subsingleton S_.Idx := ⟨fun a b => funext fun i => i.elim0⟩
  have t := Host.reduce_andi_all _ _ _ _ ix0 e₁ (ix2 n k)
  pointwise at t
  rw [show (⟨1 + k.val, by omega⟩ : Fin 5) = k.succ from Fin.ext (Nat.add_comm _ _), word_16] at t
  have le : max (z (ix2 n k.succ)) (-(z (ix2 n k.succ))) ≤ ((16 : ℝ) : EReal) :=
    of_decide_eq_true ((BitVec.ofBool_eq_iff_eq (b' := true)).1 t)
  obtain ⟨r, hr⟩ := real_of_abs_lt _ (le.trans_lt (EReal.coe_lt_top 16))
  rw [hr, abs_real] at le
  exact ⟨r, hr, EReal.coe_le_coe_iff.1 le⟩

end Cert.RoiPool

end
-- ==== Proof.lean ====
/- The proof of the claims: both programs run to the end and leave their arguments and semaphores as they were, the ideal
   kernel is the kernel with one named constant, and kernel and reference return the same pooled values for boxes near the
   origin. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import proofs.«01_k».proof.Proof.RefPool
public import proofs.«01_k».proof.Proof.Near
public import Idealize.ShloMosaic.Lib.Quiescent
public import Idealize.ShloMosaic.Adequacy
public import Idealize.ShloMosaic.Init

@[expose] public section

noncomputable section

namespace Cert.Proof

open Idealize.ShloMosaic Idealize.SL.Sem Cert.RoiPool

/-- The reference ends with its arguments unchanged and every semaphore counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- Under the precondition kernel and reference return the same pooled values. -/
theorem same_values :
    Cert.algebraic_KernelIdeal_ReferenceIdeal_pre_boxes_near_origin (hKernelIdeal := Cert.KernelIdeal.Gen.facts)
      (hReferenceIdeal := Cert.ReferenceIdeal.Gen.facts) (hPre_boxes_near_origin := near_facts) := by
  intro m ρ m' ρ' hpre hagree
  letI := near_facts
  choose f hf using fun c ch k => corner_is_real _ _ (hpre c) ch k
  choose b hb near using fun c n k => end_is_near _ _ (hpre c) n k
  refine ⟨_, kernel_run m ρ f b hf hb, ?_⟩
  refine (θ_run Cert.ReferenceIdeal.defs _ _).mono (fun _ h c => ⟨(h c).1.trans ?_, (h c).2⟩)
    (Cert.ReferenceIdeal.Value.run (F := Ideal) m' ρ')
  refine ref_result _ (f c) (b c) (fun ch k => ?_) (fun n k => ?_) (near c) _ _
  · exact (congrFun (hagree c).1 _).trans (hf c ch k)
  · exact (congrFun (hagree c).2 _).trans (hb c n k)

theorem claim : Cert.Claim :=
  ⟨Cert.Kernel.Gen.facts, Cert.KernelIdeal.Gen.facts, Cert.ReferenceIdeal.Gen.facts, near_facts,
    fun m ρ _ => Cert.Kernel.Gen.frame m ρ,
    fun m ρ _ => Cert.KernelIdeal.Gen.frame m ρ,
    fun m ρ _ => Cert.KernelIdeal.Gen.frame m ρ,
    fun m ρ _ => reference_frame m ρ,
    fun m ρ _ => reference_frame m ρ,
    IdealRules.named_const.statement Cert.KernelIdeal.κ "step" .f32 0x3E1D89D9#32 ((2 / 13 : ℝ) : EReal) rfl,
    same_values⟩

end Cert.Proof

end
